-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal (hKernelIdeal := hKernelIdeal) (hReferenceIdeal := hReferenceIdeal) (hPre_tokens_in_vocab := hPre_tokens_in_vocab)
-- ==== Pre_tokens_in_vocab.lean ====
abbrev S1024x200 : Shape := ⟨2, ![1024, 200]⟩
abbrev S100000x128 : Shape := ⟨2, ![100000, 128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S100000x128 : Shape := ⟨2, ![100000, 128]⟩
abbrev S204800x128 : Shape := ⟨2, ![204800, 128]⟩
abbrev S32x200 : Shape := ⟨2, ![32, 200]⟩
abbrev S4x128x128 : Shape := ⟨3, ![4, 128, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x72x128 : Shape := ⟨3, ![1, 72, 128]⟩
abbrev S72x128 : Shape := ⟨2, ![72, 128]⟩
abbrev S1x72 : Shape := ⟨2, ![1, 72]⟩
abbrev S72 : Shape := ⟨1, ![72]⟩
abbrev S1024x200x128 : Shape := ⟨3, ![1024, 200, 128]⟩

abbrev nBuf : Table → Nat
  | .hbm => 4
  | .local .scVector .vmem => 2
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S204800x128, .f32⟩
  | .hbm, ⟨3, _⟩ => ⟨S1024x200x128, .f32⟩
  | .local .scVector .vmem, ⟨0, _⟩ => ⟨S32x200, .i32⟩
  | .local .scVector .vmem, ⟨1, _⟩ => ⟨S4x128x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_61_r0 : BitVec 32 := 0#32
  ![v3.toNat, 0]
@[reducible] def k0_t1_loop : Scf.Loop 32 :=
  let c0_i32_24 : BitVec 32 := 0#32
  let c16_i32 : BitVec 32 := 16#32
  let v24 : BitVec 32 := Scalar.addi c0_i32_24 c16_i32
  let c1_i32_25 : BitVec 32 := 1#32
  ⟨c0_i32_24, v24, c1_i32_25⟩
def k0_off2 (k0_t1 : Fin k0_t1_loop.trips) (c0_i32_63 : BitVec 32) : Fin 2 → Nat :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let v60 : BitVec 32 := Scalar.addi v59 c0_i32_63
  let c0_i32_65 : BitVec 32 := 0#32
  let v62 : BitVec 1 := Scalar.cmpi .sgt v60 c0_i32_65
  let v63 : BitVec 32 := Scalar.extui v62
  let c0_i32_66 : BitVec 32 := 0#32
  let v64 : BitVec 1 := Scalar.cmpi .slt v60 c0_i32_66
  let v65 : BitVec 32 := Scalar.extui v64
  let v66 : BitVec 32 := Scalar.subi v63 v65
  let c2_i32_64 : BitVec 32 := 2#32
  let c0_i32_67 : BitVec 32 := 0#32
  let v67 : BitVec 1 := Scalar.cmpi .sgt c2_i32_64 c0_i32_67
  let v68 : BitVec 32 := Scalar.extui v67
  let c0_i32_68 : BitVec 32 := 0#32
  let v69 : BitVec 1 := Scalar.cmpi .slt c2_i32_64 c0_i32_68
  let v70 : BitVec 32 := Scalar.extui v69
  let v71 : BitVec 32 := Scalar.subi v68 v70
  let v72 : BitVec 1 := Scalar.cmpi .ne v66 v71
  let v73 : BitVec 32 := Scalar.remsi v60 c2_i32_64
  let c0_i32_69 : BitVec 32 := 0#32
  let v74 : BitVec 1 := Scalar.cmpi .ne v73 c0_i32_69
  let v75 : BitVec 1 := Scalar.andi v72 v74
  let v61 : BitVec 32 := Scalar.divsi v60 c2_i32_64
  let c1_i32_70 : BitVec 32 := 1#32
  let v76 : BitVec 32 := Scalar.subi v61 c1_i32_70
  let v77 : BitVec 32 := Scalar.select v75 v76 v61
  let c0_i32_74 : BitVec 32 := 0#32
  ![v77.toNat, 0]
def k0_off3 (i : grid0.Coords) (k0_t1 : Fin k0_t1_loop.trips) (c0_i32_63 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let v60 : BitVec 32 := Scalar.addi v59 c0_i32_63
  let c0_i32_65 : BitVec 32 := 0#32
  let v62 : BitVec 1 := Scalar.cmpi .sgt v60 c0_i32_65
  let v63 : BitVec 32 := Scalar.extui v62
  let c0_i32_66 : BitVec 32 := 0#32
  let v64 : BitVec 1 := Scalar.cmpi .slt v60 c0_i32_66
  let v65 : BitVec 32 := Scalar.extui v64
  let v66 : BitVec 32 := Scalar.subi v63 v65
  let c2_i32_64 : BitVec 32 := 2#32
  let c0_i32_67 : BitVec 32 := 0#32
  let v67 : BitVec 1 := Scalar.cmpi .sgt c2_i32_64 c0_i32_67
  let v68 : BitVec 32 := Scalar.extui v67
  let c0_i32_68 : BitVec 32 := 0#32
  let v69 : BitVec 1 := Scalar.cmpi .slt c2_i32_64 c0_i32_68
  let v70 : BitVec 32 := Scalar.extui v69
  let v71 : BitVec 32 := Scalar.subi v68 v70
  let v72 : BitVec 1 := Scalar.cmpi .ne v66 v71
  let v73 : BitVec 32 := Scalar.remsi v60 c2_i32_64
  let c0_i32_69 : BitVec 32 := 0#32
  let v74 : BitVec 1 := Scalar.cmpi .ne v73 c0_i32_69
  let v75 : BitVec 1 := Scalar.andi v72 v74
  let v61 : BitVec 32 := Scalar.divsi v60 c2_i32_64
  let c1_i32_70 : BitVec 32 := 1#32
  let v76 : BitVec 32 := Scalar.subi v61 c1_i32_70
  let v77 : BitVec 32 := Scalar.select v75 v76 v61
  let c200_i32 : BitVec 32 := 200#32
  let v83 : BitVec 32 := Scalar.muli v77 c200_i32
  let v84 : BitVec 32 := Scalar.addi v2 v83
  let c0_i32_77 : BitVec 32 := 0#32
  let v85 : BitVec 32 := Scalar.addi v84 c0_i32_77
  let c0_i32_81 : BitVec 32 := 0#32
  ![v85.toNat, 0]
def k0_cond1 (k0_t1 : Fin k0_t1_loop.trips) : BitVec 1 :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c0_i32_63 : BitVec 32 := 0#32
  let v60 : BitVec 32 := Scalar.addi v59 c0_i32_63
  let c4_i32_85 : BitVec 32 := 4#32
  let v92 : BitVec 32 := Scalar.addi v60 c4_i32_85
  let c64_i32 : BitVec 32 := 64#32
  let v93 : BitVec 1 := Scalar.cmpi .slt v92 c64_i32
  let v94 : BitVec 32 := Scalar.extui v93
  let c0_i32_86 : BitVec 32 := 0#32
  let v95 : BitVec 1 := Scalar.cmpi .ne v94 c0_i32_86
  v95

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c0_i32_63 : BitVec 32 := 0#32
  let v60 : BitVec 32 := Scalar.addi v59 c0_i32_63
  let c0_i32_65 : BitVec 32 := 0#32
  let v62 : BitVec 1 := Scalar.cmpi .sgt v60 c0_i32_65
  let v63 : BitVec 32 := Scalar.extui v62
  let c0_i32_66 : BitVec 32 := 0#32
  let v64 : BitVec 1 := Scalar.cmpi .slt v60 c0_i32_66
  let v65 : BitVec 32 := Scalar.extui v64
  let v66 : BitVec 32 := Scalar.subi v63 v65
  let c2_i32_64 : BitVec 32 := 2#32
  let c0_i32_67 : BitVec 32 := 0#32
  let v67 : BitVec 1 := Scalar.cmpi .sgt c2_i32_64 c0_i32_67
  let v68 : BitVec 32 := Scalar.extui v67
  let c0_i32_68 : BitVec 32 := 0#32
  let v69 : BitVec 1 := Scalar.cmpi .slt c2_i32_64 c0_i32_68
  let v70 : BitVec 32 := Scalar.extui v69
  let v71 : BitVec 32 := Scalar.subi v68 v70
  let v72 : BitVec 1 := Scalar.cmpi .ne v66 v71
  let v73 : BitVec 32 := Scalar.remsi v60 c2_i32_64
  let c0_i32_69 : BitVec 32 := 0#32
  let v74 : BitVec 1 := Scalar.cmpi .ne v73 c0_i32_69
  let v75 : BitVec 1 := Scalar.andi v72 v74
  let v61 : BitVec 32 := Scalar.divsi v60 c2_i32_64
  let c1_i32_70 : BitVec 32 := 1#32
  let v76 : BitVec 32 := Scalar.subi v61 c1_i32_70
  let v77 : BitVec 32 := Scalar.select v75 v76 v61
  let c200_i32_173 : BitVec 32 := 200#32
  let v222 : BitVec 32 := Scalar.muli v77 c200_i32_173
  let v223 : BitVec 32 := Scalar.addi v2 v222
  let c0_i32_174 : BitVec 32 := 0#32
  let v224 : BitVec 32 := Scalar.addi v223 c0_i32_174
  let c0_i32_178 : BitVec 32 := 0#32
  ![v224.toNat, 0]
def k0_off5 (k0_t1 : Fin k0_t1_loop.trips) : Fin 2 → Nat :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c0_i32_63 : BitVec 32 := 0#32
  let v60 : BitVec 32 := Scalar.addi v59 c0_i32_63
  let c4_i32_165 : BitVec 32 := 4#32
  let v204 : BitVec 32 := Scalar.addi v60 c4_i32_165
  let c0_i32_167 : BitVec 32 := 0#32
  let v206 : BitVec 1 := Scalar.cmpi .sgt v204 c0_i32_167
  let v207 : BitVec 32 := Scalar.extui v206
  let c0_i32_168 : BitVec 32 := 0#32
  let v208 : BitVec 1 := Scalar.cmpi .slt v204 c0_i32_168
  let v209 : BitVec 32 := Scalar.extui v208
  let v210 : BitVec 32 := Scalar.subi v207 v209
  let c2_i32_166 : BitVec 32 := 2#32
  let c0_i32_169 : BitVec 32 := 0#32
  let v211 : BitVec 1 := Scalar.cmpi .sgt c2_i32_166 c0_i32_169
  let v212 : BitVec 32 := Scalar.extui v211
  let c0_i32_170 : BitVec 32 := 0#32
  let v213 : BitVec 1 := Scalar.cmpi .slt c2_i32_166 c0_i32_170
  let v214 : BitVec 32 := Scalar.extui v213
  let v215 : BitVec 32 := Scalar.subi v212 v214
  let v216 : BitVec 1 := Scalar.cmpi .ne v210 v215
  let v217 : BitVec 32 := Scalar.remsi v204 c2_i32_166
  let c0_i32_171 : BitVec 32 := 0#32
  let v218 : BitVec 1 := Scalar.cmpi .ne v217 c0_i32_171
  let v219 : BitVec 1 := Scalar.andi v216 v218
  let v205 : BitVec 32 := Scalar.divsi v204 c2_i32_166
  let c1_i32_172 : BitVec 32 := 1#32
  let v220 : BitVec 32 := Scalar.subi v205 c1_i32_172
  let v221 : BitVec 32 := Scalar.select v219 v220 v205
  let c0_i32_185 : BitVec 32 := 0#32
  ![v221.toNat, 0]
def k0_off6 (k0_t1 : Fin k0_t1_loop.trips) (c1_i32_87 : BitVec 32) : Fin 2 → Nat :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let v96 : BitVec 32 := Scalar.addi v59 c1_i32_87
  let c0_i32_89 : BitVec 32 := 0#32
  let v98 : BitVec 1 := Scalar.cmpi .sgt v96 c0_i32_89
  let v99 : BitVec 32 := Scalar.extui v98
  let c0_i32_90 : BitVec 32 := 0#32
  let v100 : BitVec 1 := Scalar.cmpi .slt v96 c0_i32_90
  let v101 : BitVec 32 := Scalar.extui v100
  let v102 : BitVec 32 := Scalar.subi v99 v101
  let c2_i32_88 : BitVec 32 := 2#32
  let c0_i32_91 : BitVec 32 := 0#32
  let v103 : BitVec 1 := Scalar.cmpi .sgt c2_i32_88 c0_i32_91
  let v104 : BitVec 32 := Scalar.extui v103
  let c0_i32_92 : BitVec 32 := 0#32
  let v105 : BitVec 1 := Scalar.cmpi .slt c2_i32_88 c0_i32_92
  let v106 : BitVec 32 := Scalar.extui v105
  let v107 : BitVec 32 := Scalar.subi v104 v106
  let v108 : BitVec 1 := Scalar.cmpi .ne v102 v107
  let v109 : BitVec 32 := Scalar.remsi v96 c2_i32_88
  let c0_i32_93 : BitVec 32 := 0#32
  let v110 : BitVec 1 := Scalar.cmpi .ne v109 c0_i32_93
  let v111 : BitVec 1 := Scalar.andi v108 v110
  let v97 : BitVec 32 := Scalar.divsi v96 c2_i32_88
  let c1_i32_94 : BitVec 32 := 1#32
  let v112 : BitVec 32 := Scalar.subi v97 c1_i32_94
  let v113 : BitVec 32 := Scalar.select v111 v112 v97
  let c128_i32_98 : BitVec 32 := 128#32
  ![v113.toNat, 128]
def k0_off7 (i : grid0.Coords) (k0_t1 : Fin k0_t1_loop.trips) (c1_i32_87 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let v96 : BitVec 32 := Scalar.addi v59 c1_i32_87
  let c0_i32_89 : BitVec 32 := 0#32
  let v98 : BitVec 1 := Scalar.cmpi .sgt v96 c0_i32_89
  let v99 : BitVec 32 := Scalar.extui v98
  let c0_i32_90 : BitVec 32 := 0#32
  let v100 : BitVec 1 := Scalar.cmpi .slt v96 c0_i32_90
  let v101 : BitVec 32 := Scalar.extui v100
  let v102 : BitVec 32 := Scalar.subi v99 v101
  let c2_i32_88 : BitVec 32 := 2#32
  let c0_i32_91 : BitVec 32 := 0#32
  let v103 : BitVec 1 := Scalar.cmpi .sgt c2_i32_88 c0_i32_91
  let v104 : BitVec 32 := Scalar.extui v103
  let c0_i32_92 : BitVec 32 := 0#32
  let v105 : BitVec 1 := Scalar.cmpi .slt c2_i32_88 c0_i32_92
  let v106 : BitVec 32 := Scalar.extui v105
  let v107 : BitVec 32 := Scalar.subi v104 v106
  let v108 : BitVec 1 := Scalar.cmpi .ne v102 v107
  let v109 : BitVec 32 := Scalar.remsi v96 c2_i32_88
  let c0_i32_93 : BitVec 32 := 0#32
  let v110 : BitVec 1 := Scalar.cmpi .ne v109 c0_i32_93
  let v111 : BitVec 1 := Scalar.andi v108 v110
  let v97 : BitVec 32 := Scalar.divsi v96 c2_i32_88
  let c1_i32_94 : BitVec 32 := 1#32
  let v112 : BitVec 32 := Scalar.subi v97 c1_i32_94
  let v113 : BitVec 32 := Scalar.select v111 v112 v97
  let c200_i32_101 : BitVec 32 := 200#32
  let v119 : BitVec 32 := Scalar.muli v113 c200_i32_101
  let v120 : BitVec 32 := Scalar.addi v2 v119
  let c128_i32_102 : BitVec 32 := 128#32
  let v121 : BitVec 32 := Scalar.addi v120 c128_i32_102
  let c0_i32_106 : BitVec 32 := 0#32
  ![v121.toNat, 0]
def k0_cond2 (k0_t1 : Fin k0_t1_loop.trips) : BitVec 1 :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c1_i32_87 : BitVec 32 := 1#32
  let v96 : BitVec 32 := Scalar.addi v59 c1_i32_87
  let c4_i32_110 : BitVec 32 := 4#32
  let v128 : BitVec 32 := Scalar.addi v96 c4_i32_110
  let c64_i32_111 : BitVec 32 := 64#32
  let v129 : BitVec 1 := Scalar.cmpi .slt v128 c64_i32_111
  let v130 : BitVec 32 := Scalar.extui v129
  let c0_i32_112 : BitVec 32 := 0#32
  let v131 : BitVec 1 := Scalar.cmpi .ne v130 c0_i32_112
  v131

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c1_i32_87 : BitVec 32 := 1#32
  let v96 : BitVec 32 := Scalar.addi v59 c1_i32_87
  let c0_i32_89 : BitVec 32 := 0#32
  let v98 : BitVec 1 := Scalar.cmpi .sgt v96 c0_i32_89
  let v99 : BitVec 32 := Scalar.extui v98
  let c0_i32_90 : BitVec 32 := 0#32
  let v100 : BitVec 1 := Scalar.cmpi .slt v96 c0_i32_90
  let v101 : BitVec 32 := Scalar.extui v100
  let v102 : BitVec 32 := Scalar.subi v99 v101
  let c2_i32_88 : BitVec 32 := 2#32
  let c0_i32_91 : BitVec 32 := 0#32
  let v103 : BitVec 1 := Scalar.cmpi .sgt c2_i32_88 c0_i32_91
  let v104 : BitVec 32 := Scalar.extui v103
  let c0_i32_92 : BitVec 32 := 0#32
  let v105 : BitVec 1 := Scalar.cmpi .slt c2_i32_88 c0_i32_92
  let v106 : BitVec 32 := Scalar.extui v105
  let v107 : BitVec 32 := Scalar.subi v104 v106
  let v108 : BitVec 1 := Scalar.cmpi .ne v102 v107
  let v109 : BitVec 32 := Scalar.remsi v96 c2_i32_88
  let c0_i32_93 : BitVec 32 := 0#32
  let v110 : BitVec 1 := Scalar.cmpi .ne v109 c0_i32_93
  let v111 : BitVec 1 := Scalar.andi v108 v110
  let v97 : BitVec 32 := Scalar.divsi v96 c2_i32_88
  let c1_i32_94 : BitVec 32 := 1#32
  let v112 : BitVec 32 := Scalar.subi v97 c1_i32_94
  let v113 : BitVec 32 := Scalar.select v111 v112 v97
  let c200_i32_173 : BitVec 32 := 200#32
  let v222 : BitVec 32 := Scalar.muli v113 c200_i32_173
  let v223 : BitVec 32 := Scalar.addi v2 v222
  let c128_i32_174 : BitVec 32 := 128#32
  let v224 : BitVec 32 := Scalar.addi v223 c128_i32_174
  let c0_i32_178 : BitVec 32 := 0#32
  ![v224.toNat, 0]
def k0_off9 (k0_t1 : Fin k0_t1_loop.trips) : Fin 2 → Nat :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c1_i32_87 : BitVec 32 := 1#32
  let v96 : BitVec 32 := Scalar.addi v59 c1_i32_87
  let c4_i32_165 : BitVec 32 := 4#32
  let v204 : BitVec 32 := Scalar.addi v96 c4_i32_165
  let c0_i32_167 : BitVec 32 := 0#32
  let v206 : BitVec 1 := Scalar.cmpi .sgt v204 c0_i32_167
  let v207 : BitVec 32 := Scalar.extui v206
  let c0_i32_168 : BitVec 32 := 0#32
  let v208 : BitVec 1 := Scalar.cmpi .slt v204 c0_i32_168
  let v209 : BitVec 32 := Scalar.extui v208
  let v210 : BitVec 32 := Scalar.subi v207 v209
  let c2_i32_166 : BitVec 32 := 2#32
  let c0_i32_169 : BitVec 32 := 0#32
  let v211 : BitVec 1 := Scalar.cmpi .sgt c2_i32_166 c0_i32_169
  let v212 : BitVec 32 := Scalar.extui v211
  let c0_i32_170 : BitVec 32 := 0#32
  let v213 : BitVec 1 := Scalar.cmpi .slt c2_i32_166 c0_i32_170
  let v214 : BitVec 32 := Scalar.extui v213
  let v215 : BitVec 32 := Scalar.subi v212 v214
  let v216 : BitVec 1 := Scalar.cmpi .ne v210 v215
  let v217 : BitVec 32 := Scalar.remsi v204 c2_i32_166
  let c0_i32_171 : BitVec 32 := 0#32
  let v218 : BitVec 1 := Scalar.cmpi .ne v217 c0_i32_171
  let v219 : BitVec 1 := Scalar.andi v216 v218
  let v205 : BitVec 32 := Scalar.divsi v204 c2_i32_166
  let c1_i32_172 : BitVec 32 := 1#32
  let v220 : BitVec 32 := Scalar.subi v205 c1_i32_172
  let v221 : BitVec 32 := Scalar.select v219 v220 v205
  let c128_i32_185 : BitVec 32 := 128#32
  ![v221.toNat, 128]
def k0_cond3 (k0_t1 : Fin k0_t1_loop.trips) : BitVec 1 :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c2_i32_113 : BitVec 32 := 2#32
  let v132 : BitVec 32 := Scalar.addi v59 c2_i32_113
  let c4_i32_136 : BitVec 32 := 4#32
  let v164 : BitVec 32 := Scalar.addi v132 c4_i32_136
  let c64_i32_137 : BitVec 32 := 64#32
  let v165 : BitVec 1 := Scalar.cmpi .slt v164 c64_i32_137
  let v166 : BitVec 32 := Scalar.extui v165
  let c0_i32_138 : BitVec 32 := 0#32
  let v167 : BitVec 1 := Scalar.cmpi .ne v166 c0_i32_138
  v167

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c2_i32_113 : BitVec 32 := 2#32
  let v132 : BitVec 32 := Scalar.addi v59 c2_i32_113
  let c0_i32_115 : BitVec 32 := 0#32
  let v134 : BitVec 1 := Scalar.cmpi .sgt v132 c0_i32_115
  let v135 : BitVec 32 := Scalar.extui v134
  let c0_i32_116 : BitVec 32 := 0#32
  let v136 : BitVec 1 := Scalar.cmpi .slt v132 c0_i32_116
  let v137 : BitVec 32 := Scalar.extui v136
  let v138 : BitVec 32 := Scalar.subi v135 v137
  let c2_i32_114 : BitVec 32 := 2#32
  let c0_i32_117 : BitVec 32 := 0#32
  let v139 : BitVec 1 := Scalar.cmpi .sgt c2_i32_114 c0_i32_117
  let v140 : BitVec 32 := Scalar.extui v139
  let c0_i32_118 : BitVec 32 := 0#32
  let v141 : BitVec 1 := Scalar.cmpi .slt c2_i32_114 c0_i32_118
  let v142 : BitVec 32 := Scalar.extui v141
  let v143 : BitVec 32 := Scalar.subi v140 v142
  let v144 : BitVec 1 := Scalar.cmpi .ne v138 v143
  let v145 : BitVec 32 := Scalar.remsi v132 c2_i32_114
  let c0_i32_119 : BitVec 32 := 0#32
  let v146 : BitVec 1 := Scalar.cmpi .ne v145 c0_i32_119
  let v147 : BitVec 1 := Scalar.andi v144 v146
  let v133 : BitVec 32 := Scalar.divsi v132 c2_i32_114
  let c1_i32_120 : BitVec 32 := 1#32
  let v148 : BitVec 32 := Scalar.subi v133 c1_i32_120
  let v149 : BitVec 32 := Scalar.select v147 v148 v133
  let c200_i32_173 : BitVec 32 := 200#32
  let v222 : BitVec 32 := Scalar.muli v149 c200_i32_173
  let v223 : BitVec 32 := Scalar.addi v2 v222
  let c0_i32_174 : BitVec 32 := 0#32
  let v224 : BitVec 32 := Scalar.addi v223 c0_i32_174
  let c0_i32_178 : BitVec 32 := 0#32
  ![v224.toNat, 0]
def k0_off11 (k0_t1 : Fin k0_t1_loop.trips) : Fin 2 → Nat :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c2_i32_113 : BitVec 32 := 2#32
  let v132 : BitVec 32 := Scalar.addi v59 c2_i32_113
  let c4_i32_165 : BitVec 32 := 4#32
  let v204 : BitVec 32 := Scalar.addi v132 c4_i32_165
  let c0_i32_167 : BitVec 32 := 0#32
  let v206 : BitVec 1 := Scalar.cmpi .sgt v204 c0_i32_167
  let v207 : BitVec 32 := Scalar.extui v206
  let c0_i32_168 : BitVec 32 := 0#32
  let v208 : BitVec 1 := Scalar.cmpi .slt v204 c0_i32_168
  let v209 : BitVec 32 := Scalar.extui v208
  let v210 : BitVec 32 := Scalar.subi v207 v209
  let c2_i32_166 : BitVec 32 := 2#32
  let c0_i32_169 : BitVec 32 := 0#32
  let v211 : BitVec 1 := Scalar.cmpi .sgt c2_i32_166 c0_i32_169
  let v212 : BitVec 32 := Scalar.extui v211
  let c0_i32_170 : BitVec 32 := 0#32
  let v213 : BitVec 1 := Scalar.cmpi .slt c2_i32_166 c0_i32_170
  let v214 : BitVec 32 := Scalar.extui v213
  let v215 : BitVec 32 := Scalar.subi v212 v214
  let v216 : BitVec 1 := Scalar.cmpi .ne v210 v215
  let v217 : BitVec 32 := Scalar.remsi v204 c2_i32_166
  let c0_i32_171 : BitVec 32 := 0#32
  let v218 : BitVec 1 := Scalar.cmpi .ne v217 c0_i32_171
  let v219 : BitVec 1 := Scalar.andi v216 v218
  let v205 : BitVec 32 := Scalar.divsi v204 c2_i32_166
  let c1_i32_172 : BitVec 32 := 1#32
  let v220 : BitVec 32 := Scalar.subi v205 c1_i32_172
  let v221 : BitVec 32 := Scalar.select v219 v220 v205
  let c0_i32_185 : BitVec 32 := 0#32
  ![v221.toNat, 0]
def k0_cond4 (k0_t1 : Fin k0_t1_loop.trips) : BitVec 1 :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c3_i32_139 : BitVec 32 := 3#32
  let v168 : BitVec 32 := Scalar.addi v59 c3_i32_139
  let c4_i32_162 : BitVec 32 := 4#32
  let v200 : BitVec 32 := Scalar.addi v168 c4_i32_162
  let c64_i32_163 : BitVec 32 := 64#32
  let v201 : BitVec 1 := Scalar.cmpi .slt v200 c64_i32_163
  let v202 : BitVec 32 := Scalar.extui v201
  let c0_i32_164 : BitVec 32 := 0#32
  let v203 : BitVec 1 := Scalar.cmpi .ne v202 c0_i32_164
  v203

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c3_i32_139 : BitVec 32 := 3#32
  let v168 : BitVec 32 := Scalar.addi v59 c3_i32_139
  let c0_i32_141 : BitVec 32 := 0#32
  let v170 : BitVec 1 := Scalar.cmpi .sgt v168 c0_i32_141
  let v171 : BitVec 32 := Scalar.extui v170
  let c0_i32_142 : BitVec 32 := 0#32
  let v172 : BitVec 1 := Scalar.cmpi .slt v168 c0_i32_142
  let v173 : BitVec 32 := Scalar.extui v172
  let v174 : BitVec 32 := Scalar.subi v171 v173
  let c2_i32_140 : BitVec 32 := 2#32
  let c0_i32_143 : BitVec 32 := 0#32
  let v175 : BitVec 1 := Scalar.cmpi .sgt c2_i32_140 c0_i32_143
  let v176 : BitVec 32 := Scalar.extui v175
  let c0_i32_144 : BitVec 32 := 0#32
  let v177 : BitVec 1 := Scalar.cmpi .slt c2_i32_140 c0_i32_144
  let v178 : BitVec 32 := Scalar.extui v177
  let v179 : BitVec 32 := Scalar.subi v176 v178
  let v180 : BitVec 1 := Scalar.cmpi .ne v174 v179
  let v181 : BitVec 32 := Scalar.remsi v168 c2_i32_140
  let c0_i32_145 : BitVec 32 := 0#32
  let v182 : BitVec 1 := Scalar.cmpi .ne v181 c0_i32_145
  let v183 : BitVec 1 := Scalar.andi v180 v182
  let v169 : BitVec 32 := Scalar.divsi v168 c2_i32_140
  let c1_i32_146 : BitVec 32 := 1#32
  let v184 : BitVec 32 := Scalar.subi v169 c1_i32_146
  let v185 : BitVec 32 := Scalar.select v183 v184 v169
  let c200_i32_173 : BitVec 32 := 200#32
  let v222 : BitVec 32 := Scalar.muli v185 c200_i32_173
  let v223 : BitVec 32 := Scalar.addi v2 v222
  let c128_i32_174 : BitVec 32 := 128#32
  let v224 : BitVec 32 := Scalar.addi v223 c128_i32_174
  let c0_i32_178 : BitVec 32 := 0#32
  ![v224.toNat, 0]
def k0_off13 (k0_t1 : Fin k0_t1_loop.trips) : Fin 2 → Nat :=
  let c0_i32_62 : BitVec 32 := 0#32
  let c0_i32_24 : BitVec 32 := 0#32
  let c1_i32_25 : BitVec 32 := 1#32
  let arg15 : BitVec 32 := Scf.iv c0_i32_24 c1_i32_25 k0_t1
  let c1_i32_61 : BitVec 32 := 1#32
  let v57 : BitVec 32 := Scalar.muli arg15 c1_i32_61
  let v58 : BitVec 32 := Scalar.addi c0_i32_62 v57
  let c4_i32 : BitVec 32 := 4#32
  let v59 : BitVec 32 := Scalar.muli v58 c4_i32
  let c3_i32_139 : BitVec 32 := 3#32
  let v168 : BitVec 32 := Scalar.addi v59 c3_i32_139
  let c4_i32_165 : BitVec 32 := 4#32
  let v204 : BitVec 32 := Scalar.addi v168 c4_i32_165
  let c0_i32_167 : BitVec 32 := 0#32
  let v206 : BitVec 1 := Scalar.cmpi .sgt v204 c0_i32_167
  let v207 : BitVec 32 := Scalar.extui v206
  let c0_i32_168 : BitVec 32 := 0#32
  let v208 : BitVec 1 := Scalar.cmpi .slt v204 c0_i32_168
  let v209 : BitVec 32 := Scalar.extui v208
  let v210 : BitVec 32 := Scalar.subi v207 v209
  let c2_i32_166 : BitVec 32 := 2#32
  let c0_i32_169 : BitVec 32 := 0#32
  let v211 : BitVec 1 := Scalar.cmpi .sgt c2_i32_166 c0_i32_169
  let v212 : BitVec 32 := Scalar.extui v211
  let c0_i32_170 : BitVec 32 := 0#32
  let v213 : BitVec 1 := Scalar.cmpi .slt c2_i32_166 c0_i32_170
  let v214 : BitVec 32 := Scalar.extui v213
  let v215 : BitVec 32 := Scalar.subi v212 v214
  let v216 : BitVec 1 := Scalar.cmpi .ne v210 v215
  let v217 : BitVec 32 := Scalar.remsi v204 c2_i32_166
  let c0_i32_171 : BitVec 32 := 0#32
  let v218 : BitVec 1 := Scalar.cmpi .ne v217 c0_i32_171
  let v219 : BitVec 1 := Scalar.andi v216 v218
  let v205 : BitVec 32 := Scalar.divsi v204 c2_i32_166
  let c1_i32_172 : BitVec 32 := 1#32
  let v220 : BitVec 32 := Scalar.subi v205 c1_i32_172
  let v221 : BitVec 32 := Scalar.select v219 v220 v205
  let c128_i32_185 : BitVec 32 := 128#32
  ![v221.toNat, 128]
def k0_off14 (i : grid0.Coords) (c6000_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v25 : BitVec 32 := Scalar.addi v2 c6000_i32
  let c0_i32_27 : BitVec 32 := 0#32
  let v26 : BitVec 32 := Scalar.addi v25 c0_i32_27
  let c0_i32_31 : BitVec 32 := 0#32
  ![v26.toNat, 0]
def k0_off15 (i : grid0.Coords) (c6000_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v33 : BitVec 32 := Scalar.addi v2 c6000_i32_35
  let c128_i32_36 : BitVec 32 := 128#32
  let v34 : BitVec 32 := Scalar.addi v33 c128_i32_36
  let c0_i32_40 : BitVec 32 := 0#32
  ![v34.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S_, .i32⟩
  | .hbm, ⟨6, _⟩ => ⟨S1024x200, .i32⟩
  | .hbm, ⟨7, _⟩ => ⟨S1024x200, .i32⟩
  | .hbm, ⟨8, _⟩ => ⟨S1024x200, .i32⟩
  | .hbm, ⟨9, _⟩ => ⟨S1024x200x1, .i32⟩
  | .hbm, ⟨10, _⟩ => ⟨S1, .i32⟩
  | .hbm, ⟨11, _⟩ => ⟨S_, .i32⟩
  | .hbm, ⟨12, _⟩ => ⟨S1024x200x1, .i32⟩
  | .hbm, ⟨13, _⟩ => ⟨S1024x200x1, .i1⟩
  | .hbm, ⟨14, _⟩ => ⟨S1x1x1, .i32⟩
  | .hbm, ⟨15, _⟩ => ⟨S1024x200x1, .i32⟩
  | .hbm, ⟨16, _⟩ => ⟨S1024x200x1, .i1⟩
  | .hbm, ⟨17, _⟩ => ⟨S1024x200x1, .i1⟩
  | .hbm, ⟨18, _⟩ => ⟨S_, .i1⟩
  | .hbm, ⟨19, _⟩ => ⟨S1024x200, .i1⟩
  | .hbm, ⟨20, _⟩ => ⟨S1024x200x128, .f32⟩
  | .hbm, ⟨21, _⟩ => ⟨S1024x200x128, .i1⟩
  | .hbm, ⟨22, _⟩ => ⟨S_, .f32⟩
  | .hbm, ⟨23, _⟩ => ⟨S1024x200x128, .f32⟩
  | .hbm, ⟨24, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.TaskKernelIdeal.lean ====
/-
  One task of the kernel, read as four turns per trip of its loop.

  The kernel runs on 2 × 16 vector subcores. Each task owns 32 rows of `input` (6400 words) and the 6400 rows of the
  output they name. A row of 200 words is served as two chunks, of 128 and of 72 words, and four chunks are in
  progress at a time, one per slot of the row scratch. Here are the memrefs a task uses, in closed form, and the body
  of the loop as a sequence of four `turn`s, one per slot.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.RunKernel
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.SL Idealize.SL.RA Idealize.SL.BI Idealize.SL.Sem

variable {F : FTy → Type} [FloatOps F]

/-! ## The memrefs of a task -/

/-- The index array, the table and the flat output, as a task addresses them. -/
abbrev idxM : Memref sig .scVector .hbm S1024x200 .i32 := Memref.whole main_arg0_scv
abbrev tabM : Memref sig .scVector .hbm S100000x128 .f32 := Memref.whole main_arg1_scv
abbrev outM : Memref sig .scVector .hbm S204800x128 .f32 := Memref.whole main_v0_scv
/-- The task's copy of its 32 rows of indices, and its four row buffers. -/
abbrev lstM : Memref sig .scVector .vmem S32x200 .i32 := Memref.whole cc0_scratch0
abbrev bufM : Memref sig .scVector .vmem S4x128x128 .f32 := Memref.whole cc0_scratch1

/-- The whole table, as the gathers name it. -/
abbrev tabAll : Memref sig .scVector .hbm S100000x128 .f32 :=
  tabM.slice (Rect.unit (s := S100000x128) ![0, 0] S100000x128.size inb_S100000x128_S100000x128_0_0) (fun _ => rfl)

/-- 128 words of the list, from `off`. -/
abbrev lst128 (off : Fin 2 → ℕ) (h : ∀ a, off a + S1x128.size a ≤ S32x200.size a) : Memref sig .scVector .vmem S128 .i32 :=
  (lstM.slice (Rect.unit (s := S32x200) off S1x128.size h) (fun _ => rfl)).squeeze S128 squeezes_S1x128_S128
/-- 72 words of the list, from `off`. -/
abbrev lst72 (off : Fin 2 → ℕ) (h : ∀ a, off a + S1x72.size a ≤ S32x200.size a) : Memref sig .scVector .vmem S72 .i32 :=
  (lstM.slice (Rect.unit (s := S32x200) off S1x72.size h) (fun _ => rfl)).squeeze S72 squeezes_S1x72_S72
/-- 128 rows of a row buffer, from `off`. -/
abbrev buf128 (off : Fin 3 → ℕ) (h : ∀ a, off a + S1x128x128.size a ≤ S4x128x128.size a) : Memref sig .scVector .vmem S128x128 .f32 :=
  (bufM.slice (Rect.unit (s := S4x128x128) off S1x128x128.size h) (fun _ => rfl)).squeeze S128x128 squeezes_S1x128x128_S128x128
/-- 72 rows of a row buffer, from `off`. -/
abbrev buf72 (off : Fin 3 → ℕ) (h : ∀ a, off a + S1x72x128.size a ≤ S4x128x128.size a) : Memref sig .scVector .vmem S72x128 .f32 :=
  (bufM.slice (Rect.unit (s := S4x128x128) off S1x72x128.size h) (fun _ => rfl)).squeeze S72x128 squeezes_S1x72x128_S72x128
/-- 128 rows of the output, from `off`. -/
abbrev out128 (off : Fin 2 → ℕ) (h : ∀ a, off a + S128x128.size a ≤ S204800x128.size a) : Memref sig .scVector .hbm S128x128 .f32 :=
  outM.slice (Rect.unit (s := S204800x128) off S128x128.size h) (fun _ => rfl)
/-- 72 rows of the output, from `off`. -/
abbrev out72 (off : Fin 2 → ℕ) (h : ∀ a, off a + S72x128.size a ≤ S204800x128.size a) : Memref sig .scVector .hbm S72x128 .f32 :=
  outM.slice (Rect.unit (s := S204800x128) off S72x128.size h) (fun _ => rfl)

/-- The slots' buffers. -/
abbrev buf0 := buf128 ![0, 0, 0] inb_S4x128x128_S1x128x128_0_0_0
abbrev buf1 := buf72 ![1, 0, 0] inb_S4x128x128_S1x72x128_1_0_0
abbrev buf2 := buf128 ![2, 0, 0] inb_S4x128x128_S1x128x128_2_0_0
abbrev buf3 := buf72 ![3, 0, 0] inb_S4x128x128_S1x72x128_3_0_0

/-! ## A turn -/

section Turn

variable {c : Fin τ.nSC} {i : Fin τ.nSub} {s si : Shape}

/-- Start the gather of the table's rows that the list names into the buffer. -/
def fetch (gs : DmaSem sig) (buf : Memref sig .scVector .vmem s .f32) (lst : Memref sig .scVector .vmem si .i32)
    (hg : S100000x128.Gathers 0 s) (hn : si.numel = s.size hg.axis') : Prog (TpuEff nD τ sig (Elt F) Λ₀ (.scVector c i)) PUnit :=
  SparseCore.enqueueIndirectGather rfl tabAll buf hg lst hn gs (View.wordExact_bits rfl) rfl (Or.inl rfl)

/-- Wait for the write of the buffer to the output. -/
def drain (ws : DmaSem sig) (buf : Memref sig .scVector .vmem s .f32) (out : Memref sig .scVector .hbm s .f32) :
    Prog (TpuEff nD τ sig (Elt F) Λ₀ (.scVector c i)) PUnit :=
  Prog.lift (.waitDma2 ws buf out (View.wordExact_bits rfl) (View.wordExact_bits rfl))

/-- Wait for the buffer's gather and start its write to the output. -/
def flush (gs ws : DmaSem sig) (buf : Memref sig .scVector .vmem s .f32) (out : Memref sig .scVector .hbm s .f32) :
    Prog (TpuEff nD τ sig (Elt F) Λ₀ (.scVector c i)) PUnit := do
  SparseCore.waitIndirectGather gs tabAll buf (View.wordExact_bits rfl) (View.wordExact_bits rfl)
  Prog.lift (.enqueueDma buf (.here out) (.dma ws) (View.wordExact_bits rfl) (View.wordExact_bits rfl) ⟨Or.inl rfl, trivial⟩)

/-- One slot's turn in a trip: write out what was gathered; unless this is the last trip, wait for that write and
    start the next trip's gather into the same buffer. -/
def turn (gs ws : DmaSem sig) (buf : Memref sig .scVector .vmem s .f32) (out : Memref sig .scVector .hbm s .f32)
    (p : Prop) [Decidable p] (out' : p → Memref sig .scVector .hbm s .f32) (lst : p → Memref sig .scVector .vmem si .i32)
    (hg : S100000x128.Gathers 0 s) (hn : si.numel = s.size hg.axis') : Prog (TpuEff nD τ sig (Elt F) Λ₀ (.scVector c i)) PUnit := do
  flush gs ws buf out
  if h : p then do
    drain ws buf (out' h)
    fetch gs buf (lst h) hg hn
    pure ⟨⟩
  else pure ⟨⟩

end Turn

/-! ## The loop's body and the rest, as turns -/

section Flat

variable (L : grid0.Coords) (k : Fin k0_t1_loop.trips)

/-- Each of the four tests of trip `k` asks whether it is not the last. -/
theorem cond1_iff : ∀ k, k0_cond1 k = 1#1 ↔ k.val < 15 := by decide +kernel
theorem cond2_iff : ∀ k, k0_cond2 k = 1#1 ↔ k.val < 15 := by decide +kernel
theorem cond3_iff : ∀ k, k0_cond3 k = 1#1 ↔ k.val < 15 := by decide +kernel
theorem cond4_iff : ∀ k, k0_cond4 k = 1#1 ↔ k.val < 15 := by decide +kernel

/-- The four turns of trip `k`. -/
def turns : Prog (TpuEff nD τ sig (Elt F) Λ₀ (.scVector ((L 0).castLE hcore0) ((L 1).castLE hsub0))) Unit := do
  turn cc0_scratch2.sem cc0_scratch6.sem buf0 (out128 (k0_off3 L k 0#32) (k0_off3_inb L k 0)) (k0_cond1 k = 1#1)
    (fun h => out128 (k0_off4 L k) (k0_off4_inb L k h)) (fun h => lst128 (k0_off5 k) (k0_off5_inb k h)) gathers_S100000x128_S128x128 rfl
  turn cc0_scratch3.sem cc0_scratch7.sem buf1 (out72 (k0_off7 L k 1#32) (k0_off7_inb L k 0)) (k0_cond2 k = 1#1)
    (fun h => out72 (k0_off8 L k) (k0_off8_inb L k h)) (fun h => lst72 (k0_off9 k) (k0_off9_inb k h)) gathers_S100000x128_S72x128 rfl
  turn cc0_scratch4.sem cc0_scratch8.sem buf2 (out128 (k0_off3 L k 2#32) (k0_off3_inb L k 1)) (k0_cond3 k = 1#1)
    (fun h => out128 (k0_off10 L k) (k0_off10_inb L k h)) (fun h => lst128 (k0_off11 k) (k0_off11_inb k h)) gathers_S100000x128_S128x128 rfl
  turn cc0_scratch5.sem cc0_scratch9.sem buf3 (out72 (k0_off7 L k 3#32) (k0_off7_inb L k 1)) (k0_cond4 k = 1#1)
    (fun h => out72 (k0_off12 L k) (k0_off12_inb L k h)) (fun h => lst72 (k0_off13 k) (k0_off13_inb k h)) gathers_S100000x128_S72x128 rfl
  pure ⟨⟩

set_option maxRecDepth 65536 in
set_option maxHeartbeats 2000000 in
/-- The loop's region at trip `k` is the four turns. -/
theorem body_eq_turns (v2 : BitVec 32) :
    k0_t1_body (F := F) L idxM (Memref.isWhole_whole _) tabM (Memref.isWhole_whole _) outM (Memref.isWhole_whole _)
        lstM (Memref.isWhole_whole _) bufM (Memref.isWhole_whole _) cc0_scratch2 cc0_scratch3 cc0_scratch4 cc0_scratch5
        cc0_scratch6 cc0_scratch7 cc0_scratch8 cc0_scratch9 cc0_scoped0 v2 k ()
      = turns L k := by
  unfold k0_t1_body turns turn flush drain fetch
  simp only [k0_part1_eq_skeleton, k0_part2_eq_skeleton, k0_part3_eq_skeleton, k0_part4_eq_skeleton, k0_part1_skel, k0_part2_skel, k0_part3_skel, k0_part4_skel,
    bind_assoc, pure_bind]
  by_cases hk : k.val < 15
  · simp only [dif_pos ((cond1_iff k).mpr hk), dif_pos ((cond2_iff k).mpr hk), dif_pos ((cond3_iff k).mpr hk), dif_pos ((cond4_iff k).mpr hk),
      bind_assoc, pure_bind]
  · simp only [dif_neg (mt (cond1_iff k).mp hk), dif_neg (mt (cond2_iff k).mp hk), dif_neg (mt (cond3_iff k).mp hk), dif_neg (mt (cond4_iff k).mp hk),
      bind_assoc, pure_bind]

/-- The task's trips: start the four gathers of the first trip, run the trips, and wait for the four writes of the last. -/
def trips : Prog (TpuEff nD τ sig (Elt F) Λ₀ (.scVector ((L 0).castLE hcore0) ((L 1).castLE hsub0))) PUnit := do
  fetch cc0_scratch2.sem buf0 (lst128 ![0, 0] inb_S32x200_S1x128_0_0) gathers_S100000x128_S128x128 rfl
  fetch cc0_scratch3.sem buf1 (lst72 ![0, 128] inb_S32x200_S1x72_0_128) gathers_S100000x128_S72x128 rfl
  fetch cc0_scratch4.sem buf2 (lst128 ![1, 0] inb_S32x200_S1x128_1_0) gathers_S100000x128_S128x128 rfl
  fetch cc0_scratch5.sem buf3 (lst72 ![1, 128] inb_S32x200_S1x72_1_128) gathers_S100000x128_S72x128 rfl
  Scf.Loop.for k0_t1_loop k0_t1_ok () (fun k _ => turns L k)
  drain cc0_scratch6.sem buf0 (out128 (k0_off14 L 6000#32) (k0_off14_inb L 0))
  drain cc0_scratch7.sem buf1 (out72 (k0_off15 L 6000#32) (k0_off15_inb L 0))
  drain cc0_scratch8.sem buf2 (out128 (k0_off14 L 6200#32) (k0_off14_inb L 1))
  drain cc0_scratch9.sem buf3 (out72 (k0_off15 L 6200#32) (k0_off15_inb L 1))
  pure ⟨⟩

/-- The whole task: copy the 32 rows of indices in, and run the trips. -/
def task : Prog (TpuEff nD τ sig (Elt F) Λ₀ (.scVector ((L 0).castLE hcore0) ((L 1).castLE hsub0))) PUnit := do
  Prog.lift (.enqueueDma (idxM.slice (Rect.unit (s := S1024x200) (k0_off1 L) S32x200.size (k0_off1_inb L)) (fun _ => rfl))
    (.here lstM) (.dma cc0_scoped0.sem) (View.wordExact_bits rfl) (View.wordExact_bits rfl) ⟨Or.inl rfl, trivial⟩)
  Prog.lift (.waitDma2 cc0_scoped0.sem (idxM.slice (Rect.unit (s := S1024x200) (k0_off1 L) S32x200.size (k0_off1_inb L)) (fun _ => rfl))
    lstM (View.wordExact_bits rfl) (View.wordExact_bits rfl))
  trips L

set_option maxRecDepth 65536 in
set_option maxHeartbeats 2000000 in
/-- The printed kernel body is the task. -/
theorem gather_body_eq_task :
    cc0__gather_body (F := F) L idxM (Memref.isWhole_whole _) tabM (Memref.isWhole_whole _) outM (Memref.isWhole_whole _)
        lstM (Memref.isWhole_whole _) bufM (Memref.isWhole_whole _) cc0_scratch2 cc0_scratch3 cc0_scratch4 cc0_scratch5
        cc0_scratch6 cc0_scratch7 cc0_scratch8 cc0_scratch9 cc0_scoped0
      = task L := by
  rw [cc0__gather_body_eq_skeleton]
  unfold cc0__gather_body_skel task trips fetch drain
  simp only [k0_part5_eq_skeleton, k0_part6_eq_skeleton, k0_part5_skel, k0_part6_skel, bind_assoc, pure_bind,
    show ∀ v, k0_t1_body (F := F) L idxM (Memref.isWhole_whole _) tabM (Memref.isWhole_whole _) outM (Memref.isWhole_whole _)
        lstM (Memref.isWhole_whole _) bufM (Memref.isWhole_whole _) cc0_scratch2 cc0_scratch3 cc0_scratch4 cc0_scratch5
        cc0_scratch6 cc0_scratch7 cc0_scratch8 cc0_scratch9 cc0_scoped0 v = fun k _ => turns L k from
      fun v => funext fun k => funext fun _ => body_eq_turns L k v]

end Flat

end Cert.Proof.OfKernelIdeal

end
-- ==== Proof.ValuesKernelIdeal.lean ====
/-
  What the kernel computes, and that each gather brings the rows its chunk of the output needs.

  The flat output `Out` has at row `r` the row of the table that word `r` of the index array names. A chunk's list is
  128 or 72 words of the task's copy of its indices (`Lst`); the gather over it delivers `Out` at the chunk's rows.
-/
module

public import proofs.«01_k».proof.Proof.TaskKernelIdeal
public import Idealize.ShloMosaic.Lib.Pointwise.Index

@[expose] public section

noncomputable section

namespace Cert.Proof.OfKernelIdeal

open Cert.KernelIdeal Cert.KernelIdeal.Gen

open Idealize.ShloMosaic
open Idealize.SL Idealize.SL.RA Idealize.SL.BI Idealize.SL.Sem

variable {F : FTy → Type}

/-! ## Where things are -/

/-- The index array, the table and the flat output of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

variable (m : (ℓ : Loc nD τ sig) → Buf (Elt F) ℓ) (d : Dev nD)

/-- What the proof asks of the launch memory: every word of the index array names a row of the table. -/
def PreOK : Prop := ∀ (d : Dev nD) (j : S1024x200.Idx), (m (iLoc d) j).toNat < 100000

/-- Word `r` of the index array, counted row by row. -/
def word (r : Fin 204800) : BitVec 32 :=
  m (iLoc d) (ix2 (⟨r.val / 200, by omega⟩ : Fin 1024) (⟨r.val % 200, by omega⟩ : Fin 200))

/-- The flat output: at row `r` the row of the table that word `r` names. -/
def Out : Buf (Elt F) (oLoc d) := fun (y : S204800x128.Idx) =>
  m (xLoc d) (ix2 (⟨(word m d (y 0)).toNat % 100000, Nat.mod_lt _ (by decide)⟩ : Fin 100000) (y 1))

/-! ## A task's chunks -/

section Chunks

variable (L : grid0.Coords)

theorem core_lt : (L 0).val < 2 := (L 0).isLt
theorem tile_lt : (L 1).val < 16 := (L 1).isLt

/-- The task's copy of its 32 rows of indices. -/
def Lst : S32x200.Idx → Elt F .i32 := fun y =>
  m (iLoc d) (ix2 (⟨64 * (L 1).val + 32 * (L 0).val + (y 0).val, by
    have := core_lt L; have := tile_lt L; have : (y 0).val < 32 := (y 0).isLt; omega⟩ : Fin 1024) (y 1))

/-- The first row of the output that row `r` of trip `k` fills. -/
abbrev start (k : Fin 16) (r : Fin 2) : ℕ := 12800 * (L 1).val + 6400 * (L 0).val + 400 * k.val + 200 * r.val

/-- The output rows of the chunk of 128 words. -/
abbrev o128 (k : Fin 16) (r : Fin 2) : Memref sig .scVector .hbm S128x128 .f32 :=
  out128 ![start L k r, 0] (by
    intro a; have := core_lt L; have := tile_lt L; fin_cases a
    · show start L k r + 128 ≤ 204800; unfold start; omega
    · show 0 + 128 ≤ 128; omega)
/-- The output rows of the chunk of 72 words. -/
abbrev o72 (k : Fin 16) (r : Fin 2) : Memref sig .scVector .hbm S72x128 .f32 :=
  out72 ![start L k r + 128, 0] (by
    intro a; have := core_lt L; have := tile_lt L; fin_cases a
    · show start L k r + 128 + 72 ≤ 204800; unfold start; omega
    · show 0 + 128 ≤ 128; omega)
/-- The list of the chunk of 128 words. -/
abbrev l128 (k : Fin 16) (r : Fin 2) : Memref sig .scVector .vmem S128 .i32 :=
  lst128 ![2 * k.val + r.val, 0] (by
    intro a; fin_cases a
    · show 2 * k.val + r.val + 1 ≤ 32; omega
    · show 0 + 128 ≤ 200; omega)
/-- The list of the chunk of 72 words. -/
abbrev l72 (k : Fin 16) (r : Fin 2) : Memref sig .scVector .vmem S72 .i32 :=
  lst72 ![2 * k.val + r.val, 128] (by
    intro a; fin_cases a
    · show 2 * k.val + r.val + 1 ≤ 32; omega
    · show 128 + 72 ≤ 200; omega)

/-- A memref is its offsets'. -/
theorem out128_congr {o o' : Fin 2 → ℕ} (e : o = o') (h) (h') : out128 o h = out128 o' h' := by subst e; rfl
theorem out72_congr {o o' : Fin 2 → ℕ} (e : o = o') (h) (h') : out72 o h = out72 o' h' := by subst e; rfl
theorem lst128_congr {o o' : Fin 2 → ℕ} (e : o = o') (h) (h') : lst128 o h = lst128 o' h' := by subst e; rfl
theorem lst72_congr {o o' : Fin 2 → ℕ} (e : o = o') (h) (h') : lst72 o h = lst72 o' h' := by subst e; rfl

/-! ## What a chunk's gather delivers -/

/-- A gather over a list of `n` words, at row `a`: the source's row that word `a` names. -/
theorem gathered {n : ℕ} (hg : S100000x128.Gathers 0 ⟨2, ![n, 128]⟩)
    (hn : (⟨1, ![n]⟩ : Shape).numel = (⟨2, ![n, 128]⟩ : Shape).size hg.axis') (w : (⟨1, ![n]⟩ : Shape).Idx → Elt F .i32)
    (hin : ∀ x, (w x).toNat < S100000x128.size hg.axis) (tab : S100000x128.Idx → Elt F .f32) (x : (⟨2, ![n, 128]⟩ : Shape).Idx)
    (a : Fin n) (ha : a.val = (x 0).val) (h : (w (ix1 a)).toNat < 100000) :
    SparseCore.gatherPayload hg tab (SparseCore.rows w hn hin) x = tab (ix2 (⟨(w (ix1 a)).toNat, h⟩ : Fin 100000) (x 1)) := by
  unfold SparseCore.gatherPayload
  congr 1
  funext b
  match b with
  | ⟨0, _⟩ =>
    refine (hg.idx_axis _ _).trans (Fin.ext ?_)
    show (w ((⟨1, ![n]⟩ : Shape).rowMajor.symm _)).toNat = (w (ix1 a)).toNat
    congr 2
    rw [Equiv.symm_apply_eq]
    refine Fin.ext ?_
    rw [Shape.rowMajor_val_one]
    exact ha.symm
  | ⟨1, _⟩ =>
    refine Fin.ext ((hg.idx_of_ne _ x ⟨1, by decide⟩ (by decide)).trans ?_)
    rfl

/-- The table as the gathers read it is the table. -/
theorem read_tabAll (f : S100000x128.Idx → Elt F .f32) : tabAll.view.read (Elt F) f = f := by
  funext x
  rw [View.read_apply]
  refine (cast_eq _ _).trans (congrArg f ?_)
  funext a
  refine Fin.ext ?_
  match a with
  | ⟨0, _⟩ => show 0 + 1 * (x 0).val = (x 0).val; omega
  | ⟨1, _⟩ => show 0 + 1 * (x 1).val = (x 1).val; omega

/-- Word `a` of a list of 128 words, and of a list of 72 words, taken from the list's buffer. -/
theorem read_l128 (f : S32x200.Idx → Elt F .i32) (k : Fin 16) (r : Fin 2) (a : Fin 128) :
    (l128 k r).view.read (Elt F) f (ix1 a)
      = f (ix2 (⟨2 * k.val + r.val, by omega⟩ : Fin 32) (⟨a.val, by omega⟩ : Fin 200)) := by
  rw [View.read_apply]
  refine (cast_eq _ _).trans (congrArg f ?_)
  show ((Rect.unit (s := S32x200) _ S1x128.size _).emb (Shape.reshapeEquiv _ (ix1 a))) = _
  rw [Shape.reshapeEquiv_cons_one]
  funext b
  refine Fin.ext ?_
  match b with
  | ⟨0, _⟩ => show 2 * k.val + r.val + 1 * 0 = 2 * k.val + r.val; omega
  | ⟨1, _⟩ => show 0 + 1 * a.val = a.val; omega
theorem read_l72 (f : S32x200.Idx → Elt F .i32) (k : Fin 16) (r : Fin 2) (a : Fin 72) :
    (l72 k r).view.read (Elt F) f (ix1 a)
      = f (ix2 (⟨2 * k.val + r.val, by omega⟩ : Fin 32) (⟨128 + a.val, by omega⟩ : Fin 200)) := by
  rw [View.read_apply]
  refine (cast_eq _ _).trans (congrArg f ?_)
  show ((Rect.unit (s := S32x200) _ S1x72.size _).emb (Shape.reshapeEquiv _ (ix1 a))) = _
  rw [Shape.reshapeEquiv_cons_one]
  funext b
  refine Fin.ext ?_
  match b with
  | ⟨0, _⟩ => show 2 * k.val + r.val + 1 * 0 = 2 * k.val + r.val; omega
  | ⟨1, _⟩ => show 128 + 1 * a.val = 128 + a.val; omega

/-- The output at a chunk's rows, read through the chunk's memref. -/
theorem read_o128 (f : S204800x128.Idx → Elt F .f32) (k : Fin 16) (r : Fin 2) (x : S128x128.Idx) (h : start L k r + (x 0).val < 204800) :
    (o128 L k r).view.read (Elt F) f x = f (ix2 (⟨start L k r + (x 0).val, h⟩ : Fin 204800) (x 1)) := by
  rw [View.read_apply]
  refine (cast_eq _ _).trans (congrArg f ?_)
  funext b
  refine Fin.ext ?_
  match b with
  | ⟨0, _⟩ => show start L k r + 1 * (x 0).val = start L k r + (x 0).val; omega
  | ⟨1, _⟩ => show 0 + 1 * (x 1).val = (x 1).val; omega
theorem read_o72 (f : S204800x128.Idx → Elt F .f32) (k : Fin 16) (r : Fin 2) (x : S72x128.Idx) (h : start L k r + 128 + (x 0).val < 204800) :
    (o72 L k r).view.read (Elt F) f x = f (ix2 (⟨start L k r + 128 + (x 0).val, h⟩ : Fin 204800) (x 1)) := by
  rw [View.read_apply]
  refine (cast_eq _ _).trans (congrArg f ?_)
  funext b
  refine Fin.ext ?_
  match b with
  | ⟨0, _⟩ => show start L k r + 128 + 1 * (x 0).val = start L k r + 128 + (x 0).val; omega
  | ⟨1, _⟩ => show 0 + 1 * (x 1).val = (x 1).val; omega

variable {m}

/-- Every word of the task's list names a row of the table. -/
theorem Lst_lt (hpre : PreOK m) (y : S32x200.Idx) : (Lst m d L y).toNat < 100000 := hpre d _

theorem l128_lt (hpre : PreOK m) (k : Fin 16) (r : Fin 2) (x : S128.Idx) :
    ((l128 k r).view.read (Elt F) (Lst m d L) x).toNat < 100000 := by
  rw [← ix1_eta x]; exact (congrArg BitVec.toNat (read_l128 (F := F) _ k r (x 0))).trans_lt (Lst_lt d L hpre _)
theorem l72_lt (hpre : PreOK m) (k : Fin 16) (r : Fin 2) (x : S72.Idx) :
    ((l72 k r).view.read (Elt F) (Lst m d L) x).toNat < 100000 := by
  rw [← ix1_eta x]; exact (congrArg BitVec.toNat (read_l72 (F := F) _ k r (x 0))).trans_lt (Lst_lt d L hpre _)

/-- The list's word at row `2k + r` and column `c` is the word the flat output's row `start + c` takes. -/
theorem Lst_eq_word (k : Fin 16) (r : Fin 2) (c : Fin 200) (h : start L k r + c.val < 204800) :
    Lst m d L (ix2 (⟨2 * k.val + r.val, by omega⟩ : Fin 32) c) = word m d ⟨start L k r + c.val, h⟩ := by
  unfold Lst word
  refine congrArg (m (iLoc d)) ?_
  refine (ix2_inj (n0 := 1024) (n1 := 200) _ _ _ _).mpr ⟨Fin.ext ?_, Fin.ext ?_⟩
  · show 64 * (L 1).val + 32 * (L 0).val + (2 * k.val + r.val) = (start L k r + c.val) / 200
    unfold start; omega
  · show c.val = (start L k r + c.val) % 200
    unfold start; omega

/-- Out at a chunk's row, by the word of the task's list. -/
theorem Out_eq (hpre : PreOK m) (k : Fin 16) (r : Fin 2) (c : Fin 200) (b : Fin 128) (h : start L k r + c.val < 204800)
    (h' : (Lst m d L (ix2 (⟨2 * k.val + r.val, by omega⟩ : Fin 32) c)).toNat < 100000) :
    m (xLoc d) (ix2 (⟨(Lst m d L (ix2 (⟨2 * k.val + r.val, by omega⟩ : Fin 32) c)).toNat, h'⟩ : Fin 100000) b)
      = Out m d (ix2 (⟨start L k r + c.val, h⟩ : Fin 204800) b) := by
  unfold Out
  refine congrArg (m (xLoc d)) ?_
  refine (ix2_inj (n0 := 100000) (n1 := 128) _ _ _ _).mpr ⟨Fin.ext ?_, rfl⟩
  show (Lst m d L _).toNat = (word m d ⟨start L k r + c.val, h⟩).toNat % 100000
  rw [← Lst_eq_word d L k r c h, Nat.mod_eq_of_lt h']

theorem start_lt (k : Fin 16) (r : Fin 2) (c : ℕ) (hc : c < 200) : start L k r + c < 204800 := by
  have := core_lt L; have := tile_lt L; unfold start; omega

/-- The gather over a chunk's list of 128 words delivers the output at the chunk's rows. -/
theorem payload128 (hpre : PreOK m) (k : Fin 16) (r : Fin 2) (hg : S100000x128.Gathers 0 S128x128)
    (hn : S128.numel = S128x128.size hg.axis') (hin) :
    SparseCore.gatherPayload hg (tabAll.view.read (Elt F) (m (xLoc d))) (SparseCore.rows ((l128 k r).view.read (Elt F) (Lst m d L)) hn hin)
      = (o128 L k r).view.read (Elt F) (Out m d) := by
  funext x
  have hx : (x 0).val < 128 := (x 0).isLt
  refine (gathered (n := 128) hg hn _ hin _ x ⟨(x 0).val, hx⟩ rfl (l128_lt d L hpre k r _)).trans ?_
  refine (congrFun (read_tabAll (F := F) _) _).trans ?_
  refine Eq.trans ?_ (read_o128 (F := F) L (Out m d) k r x (start_lt L k r _ (by omega))).symm
  refine Eq.trans ?_ (Out_eq d L hpre k r (⟨(x 0).val, by omega⟩ : Fin 200) (x 1) (start_lt L k r _ (by show (x 0).val < 200; omega)) (Lst_lt d L hpre _))
  refine congrArg (m (xLoc d)) ?_
  exact (ix2_inj (n0 := 100000) (n1 := 128) _ _ _ _).mpr ⟨Fin.ext (congrArg BitVec.toNat (read_l128 (F := F) _ k r _)), rfl⟩

/-- The gather over a chunk's list of 72 words delivers the output at the chunk's rows. -/
theorem payload72 (hpre : PreOK m) (k : Fin 16) (r : Fin 2) (hg : S100000x128.Gathers 0 S72x128)
    (hn : S72.numel = S72x128.size hg.axis') (hin) :
    SparseCore.gatherPayload hg (tabAll.view.read (Elt F) (m (xLoc d))) (SparseCore.rows ((l72 k r).view.read (Elt F) (Lst m d L)) hn hin)
      = (o72 L k r).view.read (Elt F) (Out m d) := by
  funext x
  have hx : (x 0).val < 72 := (x 0).isLt
  refine (gathered (n := 72) hg hn _ hin _ x ⟨(x 0).val, hx⟩ rfl (l72_lt d L hpre k r _)).trans ?_
  refine (congrFun (read_tabAll (F := F) _) _).trans ?_
  refine Eq.trans ?_ (read_o72 (F := F) L (Out m d) k r x (by have := start_lt L k r (128 + (x 0).val) (by omega); omega)).symm
  refine Eq.trans ?_ ((Out_eq d L hpre k r (⟨128 + (x 0).val, by omega⟩ : Fin 200) (x 1) (start_lt L k r _ (by show 128 + (x 0).val < 200; omega)) (Lst_lt d L hpre _)).trans
    (congrArg (fun z => Out m d (ix2 z (x 1))) (Fin.ext (Nat.add_assoc _ _ _).symm)))
  refine congrArg (m (xLoc d)) ?_
  exact (ix2_inj (n0 := 100000) (n1 := 128) _ _ _ _).mpr ⟨Fin.ext (congrArg BitVec.toNat (read_l72 (F := F) _ k r _)), rfl⟩

/-! ## The output's elements, by task and by chunk -/

/-- The elements of the chunks. -/
theorem mem_o128 (k : Fin 16) (r : Fin 2) (y : S204800x128.Idx) :
    y ∈ (o128 L k r).view.set ↔ start L k r ≤ (y 0).val ∧ (y 0).val < start L k r + 128 := by
  refine (Finset.ext_iff.mp (View.set_slice_whole (main_v0_scv : Ref sig .scVector) _) y).trans ?_
  refine Rect.mem_set_unit.trans ⟨fun h => h 0, fun h a => ?_⟩
  match a with
  | ⟨0, _⟩ => exact h
  | ⟨1, _⟩ => exact ⟨Nat.zero_le _, (Nat.zero_add 128).symm ▸ (y 1).isLt⟩
theorem mem_o72 (k : Fin 16) (r : Fin 2) (y : S204800x128.Idx) :
    y ∈ (o72 L k r).view.set ↔ start L k r + 128 ≤ (y 0).val ∧ (y 0).val < start L k r + 128 + 72 := by
  refine (Finset.ext_iff.mp (View.set_slice_whole (main_v0_scv : Ref sig .scVector) _) y).trans ?_
  refine Rect.mem_set_unit.trans ⟨fun h => h 0, fun h a => ?_⟩
  match a with
  | ⟨0, _⟩ => exact h
  | ⟨1, _⟩ => exact ⟨Nat.zero_le _, (Nat.zero_add 128).symm ▸ (y 1).isLt⟩

end Chunks

end Cert.Proof.OfKernelIdeal

end
-- ==== Proof.TurnKernelIdeal.lean ====
/-
  The turns of a task, proved: one lemma for the turn that goes on to the next trip, one for the last.

  A slot before its turn is `Filling`: the gather of its chunk is in flight, and on arrival the slot's buffer reads as
  the output does at the chunk's rows. After its last turn it is `Spilling`: the write of the chunk is in flight, and on
  arrival the chunk's rows of the output hold what they should.
-/
module

public import proofs.«01_k».proof.Proof.ValuesKernelIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev 𝒱₀ : Variants := Variants.none

variable [FloatOps F]
variable (d : Dev nD) {c : Fin τ.nSC} {i : Fin τ.nSub} {s si : Shape}

/-! ## The two states of a slot -/

/-- The elements of a memref, at contents `f` and share `q`. -/
abbrev pts {sp : Space} {s : Shape} {e : EltTy} (d : Dev nD) (c : Fin τ.nSC) (i : Fin τ.nSub) (r : Memref sig .scVector sp s e)
    (q : PosShare TreeShare) (f : Buf (Elt F) (r.view.loc (V d c i))) : sProp 𝕄 :=
  r.view.loc (V d c i) ↦[r.view.set]{q} f

/-- The gather of a chunk is in flight on `gs`: it will leave the buffer reading as `g` does at the chunk's rows, and
    give back the shares of the table and of the list. Beside it, the write's semaphore at zero and `R`. -/
def Filling (gs ws : DmaSem sig) (buf : Memref sig .scVector .vmem s .f32) (lst : Memref sig .scVector .vmem si .i32)
    (out : Memref sig .scVector .hbm s .f32) (qx ql : PosShare TreeShare) (fx : Buf (Elt F) (tabAll.view.loc (V d c i)))
    (fl : Buf (Elt F) (lst.view.loc (V d c i))) (g : Buf (Elt F) (out.view.loc (V d c i))) (R : sProp 𝕄) : sProp 𝕄 :=
  iprop(Transfers.Flight countersEmb (V d c i) (.dma gs) none buf.view.dmaCredit
      iprop((∃ f, ⌜buf.view.read (Elt F) f = out.view.read (Elt F) g⌝ ∗ pts d c i buf fullShare f)
        ∗ pts d c i tabAll qx fx ∗ pts d c i lst ql fl)
    ∗ semVal ((V d c i : Thread nD τ), SemLoc.dma ws) 0 ∗ R)

/-- The write of a chunk is in flight on `ws`: it will leave the output at `g` on the chunk's rows and give the buffer
    back. Beside it, the gather's semaphore at zero, the share of the table and `R`. -/
def Spilling (gs ws : DmaSem sig) (buf : Memref sig .scVector .vmem s .f32)
    (out : Memref sig .scVector .hbm s .f32) (qx : PosShare TreeShare) (fx : Buf (Elt F) (tabAll.view.loc (V d c i)))
    (g : Buf (Elt F) (out.view.loc (V d c i))) (R : sProp 𝕄) : sProp 𝕄 :=
  iprop(Transfers.Flight countersEmb (V d c i) (.dma ws) none out.view.dmaCredit
      iprop(pts d c i out fullShare g ∗ ∃ f, pts d c i buf fullShare f)
    ∗ semVal ((V d c i : Thread nD τ), SemLoc.dma gs) 0 ∗ pts d c i tabAll qx fx ∗ R)

/-- What a task owes, with the waits it has recorded: those of `W` and its own. -/
def Owing (d : Dev nD) (c : Fin τ.nSC) (i : Fin τ.nSub) (O : CellTallies nD τ sig (HIx 1)) (W : Waits sig (HIx 1)) : sProp 𝕄 :=
  iprop(∃ W', ⌜∀ p ∈ W', p ∈ W ∨ p.2 = none⌝ ∗ owes (V d c i) O W')

variable {d}

/-- What a write leaves on its target's elements, when the source reads as `g` does there. -/
theorem pts_written (out : Memref sig .scVector .hbm s .f32) (f g : Buf (Elt F) (out.view.loc (V d c i))) (w : s.Idx → Elt F .f32)
    (h : w = out.view.read (Elt F) g) :
    pts d c i out fullShare (out.view.write (Elt F) f w Finset.univ) = pts d c i out fullShare g := by
  refine pointsTo_congr fun y hy => ?_
  obtain ⟨x, -, rfl⟩ := Finset.mem_map.mp hy
  rw [View.write_emb_of_mem _ _ (Finset.mem_univ x), h, View.read_apply, cast_cast, cast_eq]

variable {α : Type} {O : CellTallies nD τ sig (HIx 1)} {W : Waits sig (HIx 1)}

/-! ## The three steps -/

/-- Start a gather: from the shares of the table and of the list, the buffer and the semaphore at zero. -/
theorem wp_fetch (gs ws : DmaSem sig) (buf : Memref sig .scVector .vmem s .f32) (lst : Memref sig .scVector .vmem si .i32)
    (out : Memref sig .scVector .hbm s .f32) (qx ql : PosShare TreeShare) (fx : Buf (Elt F) (tabAll.view.loc (V d c i)))
    (fl : Buf (Elt F) (lst.view.loc (V d c i))) (g : Buf (Elt F) (out.view.loc (V d c i))) (R : sProp 𝕄)
    (hg : S100000x128.Gathers 0 s) (hn : si.numel = s.size hg.axis')
    (hN : ∑ j, (buf.slice (s.rowRect hg.axis' j) (s.stride_rowRect hg.axis' j)).view.dmaCredit = buf.view.dmaCredit) (hs : 0 < s.numel)
    (hin : ∀ x, (lst.view.read (Elt F) fl x).toNat < S100000x128.size hg.axis)
    (hval : SparseCore.gatherPayload hg (tabAll.view.read (Elt F) fx) (SparseCore.rows (lst.view.read (Elt F) fl) hn hin) = out.view.read (Elt F) g)
    (k : PUnit → Prog (TpuEff nD τ sig (Elt F) Λ₀ (.scVector c i)) α) (Q : α → sProp 𝕄) :
    iprop(pts d c i tabAll qx fx ∗ (∃ f, pts d c i buf fullShare f) ∗ pts d c i lst ql fl
        ∗ semVal ((V d c i : Thread nD τ), SemLoc.dma gs) 0 ∗ semVal ((V d c i : Thread nD τ), SemLoc.dma ws) 0 ∗ R)
      ⊢ iprop((Filling d gs ws buf lst out qx ql fx fl g R -∗ wp frame (wpE (defs₀ (F := F)) 𝒱₀ (V d c i) none) Set.univ (k ⟨⟩) Q)
        -∗ wp frame (wpE (defs₀ (F := F)) 𝒱₀ (V d c i) none) Set.univ (fetch gs buf lst hg hn >>= k) Q) := by
  iintro ⟨Hx, ⟨%f, Hb⟩, Hl, Hgs, Hws, HR⟩ Hk
  unfold fetch
  iapply (SparseCore.wp_indirectGatherLocal countersEmb 𝒱₀ (V d c i) none (hg := hg) (none : HIx 1) buf.view.dmaCredit hN hs hin) $$ [Hx Hb Hl Hgs]
  · isplitl [Hx]; · iexact Hx
    isplitl [Hb]; · iexact Hb
    isplitl [Hl]; · iexact Hl
    iexact Hgs
  iintro Hfl
  iapply Hk
  unfold Filling
  isplitl [Hfl]
  · iapply (Transfers.Flight_mono countersEmb (V d c i) ?_) $$ Hfl
    iintro ⟨Hb, Hx, Hl⟩
    isplitl [Hb]
    · iexists _
      isplitr
      swap; · iexact Hb
      ipureintro
      rw [View.read_write_univ]; exact hval
    isplitl [Hx]; · iexact Hx
    iexact Hl
  isplitl [Hws]; · iexact Hws
  iexact HR

/-- Wait for the chunk's gather and start its write. -/
theorem wp_flush (gs ws : DmaSem sig) (buf : Memref sig .scVector .vmem s .f32) (lst : Memref sig .scVector .vmem si .i32)
    (out : Memref sig .scVector .hbm s .f32) (qx ql : PosShare TreeShare) (fx : Buf (Elt F) (tabAll.view.loc (V d c i)))
    (fl : Buf (Elt F) (lst.view.loc (V d c i))) (f₀ g : Buf (Elt F) (out.view.loc (V d c i))) (R : sProp 𝕄) (hs : 0 < s.numel)
    (k : PUnit → Prog (TpuEff nD τ sig (Elt F) Λ₀ (.scVector c i)) α) (Q : α → sProp 𝕄) :
    iprop(Transfers.MayWaits (V d c i) (none : HIx 1) O ∗ Filling d gs ws buf lst out qx ql fx fl g R ∗ pts d c i out fullShare f₀ ∗ Owing d c i O W)
      ⊢ iprop((iprop(Spilling d gs ws buf out qx fx g iprop(pts d c i lst ql fl ∗ R) ∗ Owing d c i O W)
          -∗ wp frame (wpE (defs₀ (F := F)) 𝒱₀ (V d c i) none) Set.univ (k ⟨⟩) Q)
        -∗ wp frame (wpE (defs₀ (F := F)) 𝒱₀ (V d c i) none) Set.univ (flush gs ws buf out >>= k) Q) := by
  unfold Filling Owing flush
  iintro ⟨#Hmw, ⟨Hfl, Hws, HR⟩, Ho, ⟨%W', %hW', HO⟩⟩ Hk
  iapply (Transfers.wp_waitLocalO countersEmb 𝒱₀ (V d c i) none (none : HIx 1) (rfl : buf.view.dmaCredit = _)) $$ [Hfl HO]
  · isplitl [Hfl]; · iexact Hfl
    isplitl [HO]; · iexact HO
    iapply (Transfers.MayWaits.elim (SemLoc.dma gs)) $$ Hmw
  iintro ⟨⟨⟨%f, %hf, Hb⟩, Hx, Hl⟩, Hgs, HO⟩
  iapply (Transfers.wp_dmaLocal countersEmb 𝒱₀ (V d c i) none (none : HIx 1) out.view.dmaCredit rfl (View.dmaCredit_pos _ hs) (Finset.Subset.refl _)) $$ [Hb Ho Hws]
  · isplitl [Hb]; · iexact Hb
    isplitl [Ho]; · iexact Ho
    iexact Hws
  iintro Hfl
  iapply Hk
  isplitr [HO]
  · unfold Spilling
    isplitl [Hfl]
    · iapply (Transfers.Flight_mono countersEmb (V d c i) ?_) $$ Hfl
      iintro ⟨Ho, Hb⟩
      isplitl [Ho]
      · iapply (Entails.of_eq (pts_written out f₀ g _ hf)) $$ Ho
      iexists f; iexact Hb
    isplitl [Hgs]; · iexact Hgs
    isplitl [Hx]; · iexact Hx
    isplitl [Hl]; · iexact Hl
    iexact HR
  iexists _
  isplitr
  swap; · iexact HO
  ipureintro
  intro p hp
  rcases Finset.mem_insert.mp hp with hp | hp
  · exact .inr (hp ▸ rfl)
  · exact hW' p hp

/-- Wait for the chunk's write. -/
theorem wp_drain (gs ws : DmaSem sig) (buf : Memref sig .scVector .vmem s .f32)
    (out out' : Memref sig .scVector .hbm s .f32) (qx : PosShare TreeShare) (fx : Buf (Elt F) (tabAll.view.loc (V d c i)))
    (g : Buf (Elt F) (out.view.loc (V d c i))) (R : sProp 𝕄) (hc : out'.view.dmaCredit = out.view.dmaCredit)
    (k : PUnit → Prog (TpuEff nD τ sig (Elt F) Λ₀ (.scVector c i)) α) (Q : α → sProp 𝕄) :
    iprop(Transfers.MayWaits (V d c i) (none : HIx 1) O ∗ Spilling d gs ws buf out qx fx g R ∗ Owing d c i O W)
      ⊢ iprop((iprop((pts d c i out fullShare g ∗ Owing d c i O W)
              ∗ pts d c i tabAll qx fx ∗ (∃ f, pts d c i buf fullShare f)
              ∗ semVal ((V d c i : Thread nD τ), SemLoc.dma gs) 0 ∗ semVal ((V d c i : Thread nD τ), SemLoc.dma ws) 0 ∗ R)
          -∗ wp frame (wpE (defs₀ (F := F)) 𝒱₀ (V d c i) none) Set.univ (k ⟨⟩) Q)
        -∗ wp frame (wpE (defs₀ (F := F)) 𝒱₀ (V d c i) none) Set.univ (drain ws buf out' >>= k) Q) := by
  unfold Spilling Owing drain
  iintro ⟨#Hmw, ⟨Hfl, Hgs, Hx, HR⟩, ⟨%W', %hW', HO⟩⟩ Hk
  iapply (Transfers.wp_waitLocalO countersEmb 𝒱₀ (V d c i) none (none : HIx 1) hc) $$ [Hfl HO]
  · isplitl [Hfl]; · iexact Hfl
    isplitl [HO]; · iexact HO
    iapply (Transfers.MayWaits.elim (SemLoc.dma ws)) $$ Hmw
  iintro ⟨⟨Ho, Hb⟩, Hws, HO⟩
  iapply Hk
  isplitl [Ho HO]
  · isplitl [Ho]; · iexact Ho
    iexists _
    isplitr
    swap; · iexact HO
    ipureintro
    intro p hp
    rcases Finset.mem_insert.mp hp with hp | hp
    · exact .inr (hp ▸ rfl)
    · exact hW' p hp
  isplitl [Hx]; · iexact Hx
  isplitl [Hb]; · iexact Hb
  isplitl [Hgs]; · iexact Hgs
  isplitl [Hws]; · iexact Hws
  iexact HR

/-! ## A turn -/

/-- A turn that is not the last: the chunk's rows of the output are written, and the next chunk's gather is in flight. -/
theorem wp_turn_next (gs ws : DmaSem sig) (buf : Memref sig .scVector .vmem s .f32) {lst lst₂ : Memref sig .scVector .vmem si .i32}
    {out out₂ : Memref sig .scVector .hbm s .f32} (qx ql : PosShare TreeShare) (fx : Buf (Elt F) (tabAll.view.loc (V d c i)))
    (fl : Buf (Elt F) (lst.view.loc (V d c i))) (fl₂ : Buf (Elt F) (lst₂.view.loc (V d c i)))
    (f₀ g : Buf (Elt F) (out.view.loc (V d c i))) (g₂ : Buf (Elt F) (out₂.view.loc (V d c i))) (R R₂ : sProp 𝕄)
    {p : Prop} [Decidable p] (hp : p) {out' : p → Memref sig .scVector .hbm s .f32} {lst' : p → Memref sig .scVector .vmem si .i32}
    {hg : S100000x128.Gathers 0 s} {hn : si.numel = s.size hg.axis'} (hs : 0 < s.numel)
    (hN : ∑ j, (buf.slice (s.rowRect hg.axis' j) (s.stride_rowRect hg.axis' j)).view.dmaCredit = buf.view.dmaCredit)
    (hc : ∀ h, (out' h).view.dmaCredit = out.view.dmaCredit) (hl : ∀ h, lst' h = lst₂)
    (hR : iprop(pts d c i lst ql fl ∗ R) ⊢ iprop(pts d c i lst₂ ql fl₂ ∗ R₂))
    (hin : ∀ x, (lst₂.view.read (Elt F) fl₂ x).toNat < S100000x128.size hg.axis)
    (hval : SparseCore.gatherPayload hg (tabAll.view.read (Elt F) fx) (SparseCore.rows (lst₂.view.read (Elt F) fl₂) hn hin) = out₂.view.read (Elt F) g₂)
    (k : PUnit → Prog (TpuEff nD τ sig (Elt F) Λ₀ (.scVector c i)) α) (Q : α → sProp 𝕄) :
    iprop(Transfers.MayWaits (V d c i) (none : HIx 1) O ∗ Filling d gs ws buf lst out qx ql fx fl g R ∗ pts d c i out fullShare f₀ ∗ Owing d c i O W)
      ⊢ iprop((iprop(pts d c i out fullShare g ∗ Filling d gs ws buf lst₂ out₂ qx ql fx fl₂ g₂ R₂ ∗ Owing d c i O W)
          -∗ wp frame (wpE (defs₀ (F := F)) 𝒱₀ (V d c i) none) Set.univ (k ⟨⟩) Q)
        -∗ wp frame (wpE (defs₀ (F := F)) 𝒱₀ (V d c i) none) Set.univ (turn gs ws buf out p out' lst' hg hn >>= k) Q) := by
  obtain rfl : lst' = fun _ => lst₂ := funext hl
  unfold turn
  simp only [dif_pos hp, bind_assoc, pure_bind]
  iintro ⟨#Hmw, HF, Ho, HO⟩ Hk
  iapply (wp_flush gs ws buf lst out qx ql fx fl f₀ g R hs _ Q) $$ [HF Ho HO]
  · isplitr; · iexact Hmw
    isplitl [HF]; · iexact HF
    isplitl [Ho]; · iexact Ho
    iexact HO
  iintro ⟨HS, HO⟩
  iapply (wp_drain gs ws buf out (out' hp) qx fx g _ (hc hp) _ Q) $$ [HS HO]
  · isplitr; · iexact Hmw
    isplitl [HS]; · iexact HS
    iexact HO
  iintro ⟨⟨Ho, HO⟩, Hx, Hb, Hgs, Hws, HR⟩
  ihave HR' := hR $$ HR
  icases HR' with ⟨Hl, HR⟩
  iapply (wp_fetch gs ws buf lst₂ out₂ qx ql fx fl₂ g₂ R₂ hg hn hN hs hin hval _ Q) $$ [Hx Hb Hl Hgs Hws HR]
  · isplitl [Hx]; · iexact Hx
    isplitl [Hb]; · iexact Hb
    isplitl [Hl]; · iexact Hl
    isplitl [Hgs]; · iexact Hgs
    isplitl [Hws]; · iexact Hws
    iexact HR
  iintro HF
  iapply Hk
  isplitl [Ho]; · iexact Ho
  isplitl [HF]; · iexact HF
  iexact HO

/-- The last turn: the write of the chunk is left in flight. -/
theorem wp_turn_last (gs ws : DmaSem sig) (buf : Memref sig .scVector .vmem s .f32) {lst : Memref sig .scVector .vmem si .i32}
    {out : Memref sig .scVector .hbm s .f32} (qx ql : PosShare TreeShare) (fx : Buf (Elt F) (tabAll.view.loc (V d c i)))
    (fl : Buf (Elt F) (lst.view.loc (V d c i)))
    (f₀ g : Buf (Elt F) (out.view.loc (V d c i))) (R R₂ : sProp 𝕄)
    {p : Prop} [Decidable p] (hp : ¬p) {out' : p → Memref sig .scVector .hbm s .f32} {lst' : p → Memref sig .scVector .vmem si .i32}
    {hg : S100000x128.Gathers 0 s} {hn : si.numel = s.size hg.axis'} (hs : 0 < s.numel)
    (hR : iprop(pts d c i lst ql fl ∗ R) ⊢ R₂)
    (k : PUnit → Prog (TpuEff nD τ sig (Elt F) Λ₀ (.scVector c i)) α) (Q : α → sProp 𝕄) :
    iprop(Transfers.MayWaits (V d c i) (none : HIx 1) O ∗ Filling d gs ws buf lst out qx ql fx fl g R ∗ pts d c i out fullShare f₀ ∗ Owing d c i O W)
      ⊢ iprop((iprop(Spilling d gs ws buf out qx fx g R₂ ∗ Owing d c i O W)
          -∗ wp frame (wpE (defs₀ (F := F)) 𝒱₀ (V d c i) none) Set.univ (k ⟨⟩) Q)
        -∗ wp frame (wpE (defs₀ (F := F)) 𝒱₀ (V d c i) none) Set.univ (turn gs ws buf out p out' lst' hg hn >>= k) Q) := by
  unfold turn
  simp only [dif_neg hp, bind_assoc, pure_bind]
  iintro ⟨#Hmw, HF, Ho, HO⟩ Hk
  iapply (wp_flush gs ws buf lst out qx ql fx fl f₀ g R hs _ Q) $$ [HF Ho HO]
  · isplitr; · iexact Hmw
    isplitl [HF]; · iexact HF
    isplitl [Ho]; · iexact Ho
    iexact HO
  iintro ⟨HS, HO⟩
  iapply Hk
  isplitl [HS]
  · unfold Spilling
    icases HS with ⟨Hfl, Hgs, Hx, HR⟩
    isplitl [Hfl]; · iexact Hfl
    isplitl [Hgs]; · iexact Hgs
    isplitl [Hx]; · iexact Hx
    iapply hR $$ HR
  iexact HO

end Cert.Proof.OfKernelIdeal

end
-- ==== Proof.TripsKernelIdeal.lean ====
/-
  The trips of a task, proved: the loop's invariant, and what the four turns of a trip make of it.

  Before trip `k` the four slots are `Filling` with the chunks of trip `k`; the trips before have left their rows of the
  output at `Out`. The last trip leaves the slots `Spilling`.
-/
module

public import proofs.«01_k».proof.Proof.TurnKernelIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (d : Dev nD) (L : grid0.Coords)

/-- The subcore a task runs on. -/
abbrev cV : Fin τ.nSC := (L 0).castLE hcore0
abbrev jV : Fin τ.nSub := (L 1).castLE hsub0

/-! ## The list's share of a slot -/

/-- The task's list, the elements `I` of it, at a share. -/
abbrev lstPts (q : PosShare TreeShare) (I : Finset S32x200.Idx) : sProp 𝕄 :=
  (lstM.view.loc (V d (cV L) (jV L)) ↦[I]{q} (Lst m d L : S32x200.Idx → Elt F .i32) : sProp 𝕄)

/-- A slot's share of the list is the chunk's part of it and the rest. -/
theorem lstPts_128 (q : PosShare TreeShare) (k : Fin 16) (r : Fin 2) :
    lstPts m d L q Finset.univ
      ⊣⊢ iprop(pts d (cV L) (jV L) (l128 k r) q (Lst m d L) ∗ lstPts m d L q (Finset.univ \ (l128 k r).view.set)) :=
  pointsTo_split_subset (Finset.subset_univ (l128 k r).view.set)
theorem lstPts_72 (q : PosShare TreeShare) (k : Fin 16) (r : Fin 2) :
    lstPts m d L q Finset.univ
      ⊣⊢ iprop(pts d (cV L) (jV L) (l72 k r) q (Lst m d L) ∗ lstPts m d L q (Finset.univ \ (l72 k r).view.set)) :=
  pointsTo_split_subset (Finset.subset_univ (l72 k r).view.set)

/-! ## A slot at a trip -/

section Slot

variable (gs ws : DmaSem sig) (r : Fin 2) (qx ql : PosShare TreeShare)

/-- A slot of 128 rows, its gather for trip `k` in flight; a slot of 72 rows. -/
def fill128 (buf : Memref sig .scVector .vmem S128x128 .f32) (k : Fin 16) : sProp 𝕄 :=
  Filling (c := cV L) (i := jV L) d gs ws buf (l128 k r) (o128 L k r) qx ql (m (xLoc d)) (Lst m d L : S32x200.Idx → Elt F .i32) (Out m d)
    (lstPts m d L ql (Finset.univ \ (l128 k r).view.set))
def fill72 (buf : Memref sig .scVector .vmem S72x128 .f32) (k : Fin 16) : sProp 𝕄 :=
  Filling (c := cV L) (i := jV L) d gs ws buf (l72 k r) (o72 L k r) qx ql (m (xLoc d)) (Lst m d L : S32x200.Idx → Elt F .i32) (Out m d)
    (lstPts m d L ql (Finset.univ \ (l72 k r).view.set))

/-- The slots with the writes of trip `k` in flight. -/
def spill128 (buf : Memref sig .scVector .vmem S128x128 .f32) (k : Fin 16) : sProp 𝕄 :=
  Spilling (c := cV L) (i := jV L) d gs ws buf (o128 L k r) qx (m (xLoc d)) (Out m d) (lstPts m d L ql Finset.univ)
def spill72 (buf : Memref sig .scVector .vmem S72x128 .f32) (k : Fin 16) : sProp 𝕄 :=
  Spilling (c := cV L) (i := jV L) d gs ws buf (o72 L k r) qx (m (xLoc d)) (Out m d) (lstPts m d L ql Finset.univ)

variable {m d L} {O : CellTallies nD τ sig (HIx 1)} {W : Waits sig (HIx 1)} {α : Type}
variable {p : Prop} [Decidable p]

/-- The turn of a slot of 128 rows at trip `k`, not the last. -/
theorem turn128_next (hpre : PreOK m) (buf : Memref sig .scVector .vmem S128x128 .f32)
    (hN : ∑ j, (buf.slice (S128x128.rowRect gathers_S100000x128_S128x128.axis' j) (S128x128.stride_rowRect gathers_S100000x128_S128x128.axis' j)).view.dmaCredit
      = buf.view.dmaCredit) (k k' : Fin 16)
    (f₀ : S204800x128.Idx → Elt F .f32) {out : Memref sig .scVector .hbm S128x128 .f32} (ho : out = o128 L k r) (hp : p)
    {o' : p → Fin 2 → ℕ} {ho' : ∀ h a, o' h a + S128x128.size a ≤ S204800x128.size a}
    {lst' : p → Memref sig .scVector .vmem S128 .i32} (hl : ∀ h, lst' h = l128 k' r)
    (kk : PUnit → Prog (TpuEff nD τ sig (Elt F) Λ₀ (.scVector (cV L) (jV L))) α) (Q : α → sProp 𝕄) :
    iprop(Transfers.MayWaits (V d (cV L) (jV L)) (none : HIx 1) O ∗ fill128 m d L gs ws r qx ql buf k
        ∗ pts d (cV L) (jV L) (o128 L k r) fullShare f₀ ∗ Owing d (cV L) (jV L) O W)
      ⊢ iprop((iprop(pts d (cV L) (jV L) (o128 L k r) fullShare (Out m d) ∗ fill128 m d L gs ws r qx ql buf k' ∗ Owing d (cV L) (jV L) O W)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (turn gs ws buf out p (fun h => out128 (o' h) (ho' h)) lst' gathers_S100000x128_S128x128 rfl >>= kk) Q) := by
  subst ho
  exact wp_turn_next (c := cV L) (i := jV L) (lst := l128 k r) (lst₂ := l128 k' r) (out := o128 L k r) (out₂ := o128 L k' r) (hg := gathers_S100000x128_S128x128) (hn := rfl) gs ws buf qx ql (m (xLoc d)) (Lst m d L : S32x200.Idx → Elt F .i32) (Lst m d L : S32x200.Idx → Elt F .i32) f₀ (Out m d) (Out m d)
    (lstPts m d L ql (Finset.univ \ (l128 k r).view.set)) (lstPts m d L ql (Finset.univ \ (l128 k' r).view.set)) hp (by decide) hN
    (fun _ => rfl) hl (BI.Entails.trans (lstPts_128 m d L ql k r).2 (lstPts_128 m d L ql k' r).1) (l128_lt d L hpre k' r) (payload128 d L hpre k' r _ _ _) kk Q

/-- The turn of a slot of 72 rows at trip `k`, not the last. -/
theorem turn72_next (hpre : PreOK m) (buf : Memref sig .scVector .vmem S72x128 .f32)
    (hN : ∑ j, (buf.slice (S72x128.rowRect gathers_S100000x128_S72x128.axis' j) (S72x128.stride_rowRect gathers_S100000x128_S72x128.axis' j)).view.dmaCredit
      = buf.view.dmaCredit) (k k' : Fin 16)
    (f₀ : S204800x128.Idx → Elt F .f32) {out : Memref sig .scVector .hbm S72x128 .f32} (ho : out = o72 L k r) (hp : p)
    {o' : p → Fin 2 → ℕ} {ho' : ∀ h a, o' h a + S72x128.size a ≤ S204800x128.size a}
    {lst' : p → Memref sig .scVector .vmem S72 .i32} (hl : ∀ h, lst' h = l72 k' r)
    (kk : PUnit → Prog (TpuEff nD τ sig (Elt F) Λ₀ (.scVector (cV L) (jV L))) α) (Q : α → sProp 𝕄) :
    iprop(Transfers.MayWaits (V d (cV L) (jV L)) (none : HIx 1) O ∗ fill72 m d L gs ws r qx ql buf k
        ∗ pts d (cV L) (jV L) (o72 L k r) fullShare f₀ ∗ Owing d (cV L) (jV L) O W)
      ⊢ iprop((iprop(pts d (cV L) (jV L) (o72 L k r) fullShare (Out m d) ∗ fill72 m d L gs ws r qx ql buf k' ∗ Owing d (cV L) (jV L) O W)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (turn gs ws buf out p (fun h => out72 (o' h) (ho' h)) lst' gathers_S100000x128_S72x128 rfl >>= kk) Q) := by
  subst ho
  exact wp_turn_next (c := cV L) (i := jV L) (lst := l72 k r) (lst₂ := l72 k' r) (out := o72 L k r) (out₂ := o72 L k' r) (hg := gathers_S100000x128_S72x128) (hn := rfl) gs ws buf qx ql (m (xLoc d)) (Lst m d L : S32x200.Idx → Elt F .i32) (Lst m d L : S32x200.Idx → Elt F .i32) f₀ (Out m d) (Out m d)
    (lstPts m d L ql (Finset.univ \ (l72 k r).view.set)) (lstPts m d L ql (Finset.univ \ (l72 k' r).view.set)) hp (by decide) hN
    (fun _ => rfl) hl (BI.Entails.trans (lstPts_72 m d L ql k r).2 (lstPts_72 m d L ql k' r).1) (l72_lt d L hpre k' r) (payload72 d L hpre k' r _ _ _) kk Q

/-- The last turn of a slot of 128 rows. -/
theorem turn128_last (buf : Memref sig .scVector .vmem S128x128 .f32) (k : Fin 16)
    (f₀ : S204800x128.Idx → Elt F .f32) {out : Memref sig .scVector .hbm S128x128 .f32} (ho : out = o128 L k r) (hp : ¬p)
    {out' : p → Memref sig .scVector .hbm S128x128 .f32} {lst' : p → Memref sig .scVector .vmem S128 .i32}
    (kk : PUnit → Prog (TpuEff nD τ sig (Elt F) Λ₀ (.scVector (cV L) (jV L))) α) (Q : α → sProp 𝕄) :
    iprop(Transfers.MayWaits (V d (cV L) (jV L)) (none : HIx 1) O ∗ fill128 m d L gs ws r qx ql buf k
        ∗ pts d (cV L) (jV L) (o128 L k r) fullShare f₀ ∗ Owing d (cV L) (jV L) O W)
      ⊢ iprop((iprop(spill128 m d L gs ws r qx ql buf k ∗ Owing d (cV L) (jV L) O W)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (turn gs ws buf out p out' lst' gathers_S100000x128_S128x128 rfl >>= kk) Q) := by
  subst ho
  exact wp_turn_last (c := cV L) (i := jV L) (lst := l128 k r) (out := o128 L k r) gs ws buf qx ql (m (xLoc d)) (Lst m d L : S32x200.Idx → Elt F .i32) f₀ (Out m d)
    (lstPts m d L ql (Finset.univ \ (l128 k r).view.set)) _ hp (by decide) (lstPts_128 m d L ql k r).2 kk Q

/-- The last turn of a slot of 72 rows. -/
theorem turn72_last (buf : Memref sig .scVector .vmem S72x128 .f32) (k : Fin 16)
    (f₀ : S204800x128.Idx → Elt F .f32) {out : Memref sig .scVector .hbm S72x128 .f32} (ho : out = o72 L k r) (hp : ¬p)
    {out' : p → Memref sig .scVector .hbm S72x128 .f32} {lst' : p → Memref sig .scVector .vmem S72 .i32}
    (kk : PUnit → Prog (TpuEff nD τ sig (Elt F) Λ₀ (.scVector (cV L) (jV L))) α) (Q : α → sProp 𝕄) :
    iprop(Transfers.MayWaits (V d (cV L) (jV L)) (none : HIx 1) O ∗ fill72 m d L gs ws r qx ql buf k
        ∗ pts d (cV L) (jV L) (o72 L k r) fullShare f₀ ∗ Owing d (cV L) (jV L) O W)
      ⊢ iprop((iprop(spill72 m d L gs ws r qx ql buf k ∗ Owing d (cV L) (jV L) O W)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (turn gs ws buf out p out' lst' gathers_S100000x128_S72x128 rfl >>= kk) Q) := by
  subst ho
  exact wp_turn_last (c := cV L) (i := jV L) (lst := l72 k r) (out := o72 L k r) gs ws buf qx ql (m (xLoc d)) (Lst m d L : S32x200.Idx → Elt F .i32) f₀ (Out m d)
    (lstPts m d L ql (Finset.univ \ (l72 k r).view.set)) _ hp (by decide) (lstPts_72 m d L ql k r).2 kk Q

end Slot

/-! ## A trip -/

variable (qx ql : Fin 4 → PosShare TreeShare)

/-- The rows of the output that trip `j` fills, at contents `f`. -/
def block (j : Fin 16) (f : S204800x128.Idx → Elt F .f32) : sProp 𝕄 :=
  iprop(pts d (cV L) (jV L) (o128 L j 0) fullShare f ∗ pts d (cV L) (jV L) (o72 L j 0) fullShare f
    ∗ pts d (cV L) (jV L) (o128 L j 1) fullShare f ∗ pts d (cV L) (jV L) (o72 L j 1) fullShare f)

/-- The four slots with the gathers of trip `k` in flight. -/
def fills (k : Fin 16) : sProp 𝕄 :=
  iprop(fill128 m d L cc0_scratch2.sem cc0_scratch6.sem 0 (qx 0) (ql 0) buf0 k
    ∗ fill72 m d L cc0_scratch3.sem cc0_scratch7.sem 0 (qx 1) (ql 1) buf1 k
    ∗ fill128 m d L cc0_scratch4.sem cc0_scratch8.sem 1 (qx 2) (ql 2) buf2 k
    ∗ fill72 m d L cc0_scratch5.sem cc0_scratch9.sem 1 (qx 3) (ql 3) buf3 k)

/-- The four slots with the writes of trip `k` in flight. -/
def spills (k : Fin 16) : sProp 𝕄 :=
  iprop(spill128 m d L cc0_scratch2.sem cc0_scratch6.sem 0 (qx 0) (ql 0) buf0 k
    ∗ spill72 m d L cc0_scratch3.sem cc0_scratch7.sem 0 (qx 1) (ql 1) buf1 k
    ∗ spill128 m d L cc0_scratch4.sem cc0_scratch8.sem 1 (qx 2) (ql 2) buf2 k
    ∗ spill72 m d L cc0_scratch5.sem cc0_scratch9.sem 1 (qx 3) (ql 3) buf3 k)

theorem trips_eq : k0_t1_loop.trips = 16 := by decide

/-- The trip of the loop as a number below 16. -/
abbrev tr (k : Fin k0_t1_loop.trips) : Fin 16 := k.cast trips_eq

variable {m d L} {O : CellTallies nD τ sig (HIx 1)} {W : Waits sig (HIx 1)} (k : Fin k0_t1_loop.trips)

/-- The four turns of a trip that is not the last. -/
theorem trip_next (hpre : PreOK m) (k' : Fin 16) (hk : k'.val = k.val + 1) (f₀ : S204800x128.Idx → Elt F .f32) :
    iprop(Transfers.MayWaits (V d (cV L) (jV L)) (none : HIx 1) O ∗ block d L (tr k) f₀ ∗ fills m d L qx ql (tr k) ∗ Owing d (cV L) (jV L) O W)
      ⊢ wp frame (wpE (defs₀ (F := F)) 𝒱₀ (V d (cV L) (jV L)) none) Set.univ (turns L k) fun _ =>
          iprop(block d L (tr k) (Out m d) ∗ fills m d L qx ql k' ∗ Owing d (cV L) (jV L) O W) := by
  have hk15 : k.val < 15 := by have := k'.isLt; omega
  unfold turns block fills
  iintro ⟨#Hmw, ⟨Ho0, Ho1, Ho2, Ho3⟩, ⟨HF0, HF1, HF2, HF3⟩, HO⟩
  iapply (turn128_next cc0_scratch2.sem cc0_scratch6.sem 0 (qx 0) (ql 0) hpre buf0 (by decide +kernel) (tr k) k' f₀ (out128_congr (k0_off3_eq L k 0) _ _)
    ((cond1_iff k).mpr hk15) (fun h => lst128_congr ((k0_off5_eq k).trans (by rw [hk]; rfl)) _ _) _ _) $$ [HF0 Ho0 HO]
  · isplitr; · iexact Hmw
    isplitl [HF0]; · iexact HF0
    isplitl [Ho0]; · iexact Ho0
    iexact HO
  iintro ⟨Ho0, HF0, HO⟩
  iapply (turn72_next cc0_scratch3.sem cc0_scratch7.sem 0 (qx 1) (ql 1) hpre buf1 (by decide +kernel) (tr k) k' f₀ (out72_congr (k0_off7_eq L k 0) _ _)
    ((cond2_iff k).mpr hk15) (fun h => lst72_congr ((k0_off9_eq k).trans (by rw [hk]; rfl)) _ _) _ _) $$ [HF1 Ho1 HO]
  · isplitr; · iexact Hmw
    isplitl [HF1]; · iexact HF1
    isplitl [Ho1]; · iexact Ho1
    iexact HO
  iintro ⟨Ho1, HF1, HO⟩
  iapply (turn128_next cc0_scratch4.sem cc0_scratch8.sem 1 (qx 2) (ql 2) hpre buf2 (by decide +kernel) (tr k) k' f₀ (out128_congr (k0_off3_eq L k 1) _ _)
    ((cond3_iff k).mpr hk15) (fun h => lst128_congr ((k0_off11_eq k).trans (by rw [hk]; rfl)) _ _) _ _) $$ [HF2 Ho2 HO]
  · isplitr; · iexact Hmw
    isplitl [HF2]; · iexact HF2
    isplitl [Ho2]; · iexact Ho2
    iexact HO
  iintro ⟨Ho2, HF2, HO⟩
  iapply (turn72_next cc0_scratch5.sem cc0_scratch9.sem 1 (qx 3) (ql 3) hpre buf3 (by decide +kernel) (tr k) k' f₀ (out72_congr (k0_off7_eq L k 1) _ _)
    ((cond4_iff k).mpr hk15) (fun h => lst72_congr ((k0_off13_eq k).trans (by rw [hk]; rfl)) _ _) _ _) $$ [HF3 Ho3 HO]
  · isplitr; · iexact Hmw
    isplitl [HF3]; · iexact HF3
    isplitl [Ho3]; · iexact Ho3
    iexact HO
  iintro ⟨Ho3, HF3, HO⟩
  sl_step
  isplitl [Ho0 Ho1 Ho2 Ho3]
  · isplitl [Ho0]; · iexact Ho0
    isplitl [Ho1]; · iexact Ho1
    isplitl [Ho2]; · iexact Ho2
    iexact Ho3
  isplitl [HF0 HF1 HF2 HF3]
  · isplitl [HF0]; · iexact HF0
    isplitl [HF1]; · iexact HF1
    isplitl [HF2]; · iexact HF2
    iexact HF3
  iexact HO

/-- The four turns of the last trip. -/
theorem trip_last (hk : k.val = 15) (f₀ : S204800x128.Idx → Elt F .f32) :
    iprop(Transfers.MayWaits (V d (cV L) (jV L)) (none : HIx 1) O ∗ block d L (tr k) f₀ ∗ fills m d L qx ql (tr k) ∗ Owing d (cV L) (jV L) O W)
      ⊢ wp frame (wpE (defs₀ (F := F)) 𝒱₀ (V d (cV L) (jV L)) none) Set.univ (turns L k) fun _ =>
          iprop(spills m d L qx ql (tr k) ∗ Owing d (cV L) (jV L) O W) := by
  have hk15 : ¬k.val < 15 := by omega
  unfold turns block fills
  iintro ⟨#Hmw, ⟨Ho0, Ho1, Ho2, Ho3⟩, ⟨HF0, HF1, HF2, HF3⟩, HO⟩
  iapply (turn128_last cc0_scratch2.sem cc0_scratch6.sem 0 (qx 0) (ql 0) buf0 (tr k) f₀ (out128_congr (k0_off3_eq L k 0) _ _)
    (mt (cond1_iff k).mp hk15) _ _) $$ [HF0 Ho0 HO]
  · isplitr; · iexact Hmw
    isplitl [HF0]; · iexact HF0
    isplitl [Ho0]; · iexact Ho0
    iexact HO
  iintro ⟨HF0, HO⟩
  iapply (turn72_last cc0_scratch3.sem cc0_scratch7.sem 0 (qx 1) (ql 1) buf1 (tr k) f₀ (out72_congr (k0_off7_eq L k 0) _ _)
    (mt (cond2_iff k).mp hk15) _ _) $$ [HF1 Ho1 HO]
  · isplitr; · iexact Hmw
    isplitl [HF1]; · iexact HF1
    isplitl [Ho1]; · iexact Ho1
    iexact HO
  iintro ⟨HF1, HO⟩
  iapply (turn128_last cc0_scratch4.sem cc0_scratch8.sem 1 (qx 2) (ql 2) buf2 (tr k) f₀ (out128_congr (k0_off3_eq L k 1) _ _)
    (mt (cond3_iff k).mp hk15) _ _) $$ [HF2 Ho2 HO]
  · isplitr; · iexact Hmw
    isplitl [HF2]; · iexact HF2
    isplitl [Ho2]; · iexact Ho2
    iexact HO
  iintro ⟨HF2, HO⟩
  iapply (turn72_last cc0_scratch5.sem cc0_scratch9.sem 1 (qx 3) (ql 3) buf3 (tr k) f₀ (out72_congr (k0_off7_eq L k 1) _ _)
    (mt (cond4_iff k).mp hk15) _ _) $$ [HF3 Ho3 HO]
  · isplitr; · iexact Hmw
    isplitl [HF3]; · iexact HF3
    isplitl [Ho3]; · iexact Ho3
    iexact HO
  iintro ⟨HF3, HO⟩
  sl_step
  unfold spills
  isplitl [HF0 HF1 HF2 HF3]
  · isplitl [HF0]; · iexact HF0
    isplitl [HF1]; · iexact HF1
    isplitl [HF2]; · iexact HF2
    iexact HF3
  iexact HO

/-! ## The loop -/

variable (m d L) (O W)

/-- The loop's invariant before trip `n`: the blocks of the trips before at `Out`, those from `n` on at `f₀`, the four
    gathers of trip `n` in flight. After the last: all the blocks but the last at `Out`, whose four writes are in flight. -/
def Trips (f₀ : S204800x128.Idx → Elt F .f32) (n : ℕ) (_ : Unit) : sProp 𝕄 :=
  if h : n < 16 then
    iprop(Transfers.MayWaits (V d (cV L) (jV L)) (none : HIx 1) O
      ∗ (bigSep Finset.univ fun j : Fin 16 => block d L j (if j.val < n then Out m d else f₀))
      ∗ fills m d L qx ql ⟨n, h⟩ ∗ Owing d (cV L) (jV L) O W)
  else
    iprop(Transfers.MayWaits (V d (cV L) (jV L)) (none : HIx 1) O
      ∗ (bigSep (Finset.univ.erase 15) fun j : Fin 16 => block d L j (Out m d))
      ∗ spills m d L qx ql 15 ∗ Owing d (cV L) (jV L) O W)

/-- A trip takes the invariant on. -/
theorem trip (hpre : PreOK m) (f₀ : S204800x128.Idx → Elt F .f32) (acc : Unit) :
    Trips m d L qx ql O W f₀ k.val acc
      ⊢ wp frame (wpE (defs₀ (F := F)) 𝒱₀ (V d (cV L) (jV L)) none) Set.univ (turns L k) (Trips m d L qx ql O W f₀ (k.val + 1)) := by
  have hk : k.val < 16 := k.isLt.trans_eq trips_eq
  have hblk : (bigSep Finset.univ fun j : Fin 16 => block d L j (if j.val < k.val then Out m d else f₀))
      = iprop(block d L (tr k) f₀ ∗ bigSep (Finset.univ.erase (tr k)) fun j : Fin 16 => block d L j (if j.val < k.val then Out m d else f₀)) := by
    rw [SparseCore.bigSep_erase' (Finset.mem_univ (tr k)), if_neg (show ¬(tr k).val < k.val from lt_irrefl _)]
  rw [show Trips m d L qx ql O W f₀ k.val acc = iprop(Transfers.MayWaits (V d (cV L) (jV L)) (none : HIx 1) O
      ∗ (bigSep Finset.univ fun j : Fin 16 => block d L j (if j.val < k.val then Out m d else f₀))
      ∗ fills m d L qx ql (tr k) ∗ Owing d (cV L) (jV L) O W) from dif_pos hk, hblk]
  iintro ⟨#Hmw, ⟨Hb, Hrest⟩, HF, HO⟩
  by_cases hk' : k.val + 1 < 16
  · have hne : Trips m d L qx ql O W f₀ (k.val + 1) = fun _ => iprop(Transfers.MayWaits (V d (cV L) (jV L)) (none : HIx 1) O
        ∗ (bigSep Finset.univ fun j : Fin 16 => block d L j (if j.val < k.val + 1 then Out m d else f₀))
        ∗ fills m d L qx ql ⟨k.val + 1, hk'⟩ ∗ Owing d (cV L) (jV L) O W) := funext fun _ => dif_pos hk'
    have hend : (bigSep Finset.univ fun j : Fin 16 => block d L j (if j.val < k.val + 1 then Out m d else f₀))
        = iprop(block d L (tr k) (Out m d) ∗ bigSep (Finset.univ.erase (tr k)) fun j : Fin 16 => block d L j (if j.val < k.val then Out m d else f₀)) := by
      rw [SparseCore.bigSep_erase' (Finset.mem_univ (tr k)), if_pos (show (tr k).val < k.val + 1 from Nat.lt_succ_self _)]
      congr 1
      refine bigSep_congr fun j hj => ?_
      have hj' : j.val ≠ k.val := fun e => (Finset.mem_erase.mp hj).1 (Fin.ext e)
      congr 1
      exact if_congr (by omega) rfl rfl
    rw [hne, hend]
    ihave Hw := (trip_next qx ql k hpre ⟨k.val + 1, hk'⟩ rfl f₀ (O := O) (W := W)) $$ [Hb HF HO]
    · isplitr; · iexact Hmw
      isplitl [Hb]; · iexact Hb
      isplitl [HF]; · iexact HF
      iexact HO
    iapply (wp_wand _ _ _) $$ Hw
    iintro %_ ⟨Hb, HF, HO⟩
    isplitr; · iexact Hmw
    isplitl [Hb Hrest]
    · isplitl [Hb]; · iexact Hb
      iexact Hrest
    isplitl [HF]; · iexact HF
    iexact HO
  · have h15 : k.val = 15 := by omega
    have ht : tr k = 15 := Fin.ext h15
    have hne : Trips m d L qx ql O W f₀ (k.val + 1) = fun _ => iprop(Transfers.MayWaits (V d (cV L) (jV L)) (none : HIx 1) O
        ∗ (bigSep (Finset.univ.erase (tr k)) fun j : Fin 16 => block d L j (Out m d))
        ∗ spills m d L qx ql (tr k) ∗ Owing d (cV L) (jV L) O W) := by rw [ht]; exact funext fun _ => dif_neg hk'
    have hend : (bigSep (Finset.univ.erase (tr k)) fun j : Fin 16 => block d L j (Out m d))
        = bigSep (Finset.univ.erase (tr k)) fun j : Fin 16 => block d L j (if j.val < k.val then Out m d else f₀) := by
      refine bigSep_congr fun j hj => ?_
      have hj' : j.val ≠ k.val := fun e => (Finset.mem_erase.mp hj).1 (Fin.ext e)
      rw [if_pos (by omega)]
    rw [hne, hend]
    ihave Hw := (trip_last qx ql k h15 f₀ (O := O) (W := W)) $$ [Hb HF HO]
    · isplitr; · iexact Hmw
      isplitl [Hb]; · iexact Hb
      isplitl [HF]; · iexact HF
      iexact HO
    iapply (wp_wand _ _ _) $$ Hw
    iintro %_ ⟨HF, HO⟩
    isplitr; · iexact Hmw
    isplitl [Hrest]; · iexact Hrest
    isplitl [HF]; · iexact HF
    iexact HO

end Cert.Proof.OfKernelIdeal

end
-- ==== Proof.BodyKernelIdeal.lean ====
/-
  A whole task, proved: from its shares of the index array and of the table, its rows of the output and its scratch, to
  the same with its rows of the output at `Out`.
-/
module

public import proofs.«01_k».proof.Proof.TripsKernelIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (d : Dev nD) (L : grid0.Coords)

/-! ## The rows of the output: a task's, a trip's -/

/-- Which task fills row `r` of the output. -/
abbrev owner (y : S204800x128.Idx) : ℕ := (y 0).val / 6400

/-- The rows of the task. -/
abbrev taskRows : Finset S204800x128.Idx := Finset.univ.filter fun y => owner y = 2 * (L 1).val + (L 0).val

/-- The rows of trip `j`: its four chunks. -/
abbrev tripRows (j : Fin 16) : Finset S204800x128.Idx :=
  (o128 L j 0).view.set ∪ ((o72 L j 0).view.set ∪ ((o128 L j 1).view.set ∪ (o72 L j 1).view.set))

theorem mem_tripRows (j : Fin 16) (y : S204800x128.Idx) :
    y ∈ tripRows L j ↔ start L j 0 ≤ (y 0).val ∧ (y 0).val < start L j 0 + 400 := by
  unfold tripRows
  rw [Finset.mem_union, Finset.mem_union, Finset.mem_union]
  refine (or_congr (mem_o128 L j 0 y) (or_congr (mem_o72 L j 0 y) (or_congr (mem_o128 L j 1 y) (mem_o72 L j 1 y)))).trans ?_
  unfold start
  simp only [Fin.val_zero, Fin.val_one]
  omega

/-- The task's rows are its trips'. -/
theorem biUnion_tripRows : Finset.univ.biUnion (tripRows L) = taskRows L := by
  have h0 := core_lt L; have h1 := tile_lt L
  ext y
  refine Finset.mem_biUnion.trans ((Iff.trans ?_ (Finset.mem_filter.trans (and_iff_right (Finset.mem_univ y))).symm))
  unfold owner
  constructor
  · rintro ⟨j, -, hj⟩
    have := (mem_tripRows L j y).mp hj
    unfold start at this
    simp only [Fin.val_zero] at this
    omega
  · intro h
    refine ⟨⟨(y 0).val % 6400 / 400, by omega⟩, Finset.mem_univ _, (mem_tripRows L _ y).mpr ?_⟩
    unfold start
    simp only [Fin.val_zero]
    omega

/-- The task's rows of the output are its trips' blocks. -/
theorem task_blocks (f : S204800x128.Idx → Elt F .f32) :
    (oLoc d ↦[taskRows L]{fullShare} f : sProp 𝕄) = bigSep Finset.univ fun j : Fin 16 => block d L j f := by
  rw [← biUnion_tripRows]
  refine (pointsTo_biUnion (ℓ := oLoc d) Finset.univ (tripRows L) (fun j _ j' _ hne => Finset.disjoint_left.mpr fun y hy hy' => ?_)).trans
    (bigSep_congr fun j _ => ?_)
  · have := (mem_tripRows L j y).mp hy
    have := (mem_tripRows L j' y).mp hy'
    unfold start at *
    exact hne (Fin.ext (by omega))
  · have e0 : Disjoint (o128 L j 0).view.set ((o72 L j 0).view.set ∪ ((o128 L j 1).view.set ∪ (o72 L j 1).view.set)) :=
      Finset.disjoint_left.mpr fun y hy hy' => by
        have := (mem_o128 L j 0 y).mp hy
        have := Finset.mem_union.mp hy'
        have := this.imp (mem_o72 L j 0 y).mp fun h => (Finset.mem_union.mp h).imp (mem_o128 L j 1 y).mp (mem_o72 L j 1 y).mp
        unfold start at *
        simp only [Fin.val_zero, Fin.val_one] at *
        omega
    have e1 : Disjoint (o72 L j 0).view.set ((o128 L j 1).view.set ∪ (o72 L j 1).view.set) :=
      Finset.disjoint_left.mpr fun y hy hy' => by
        have := (mem_o72 L j 0 y).mp hy
        have := (Finset.mem_union.mp hy').imp (mem_o128 L j 1 y).mp (mem_o72 L j 1 y).mp
        unfold start at *
        simp only [Fin.val_zero, Fin.val_one] at *
        omega
    have e2 : Disjoint (o128 L j 1).view.set (o72 L j 1).view.set :=
      Finset.disjoint_left.mpr fun y hy hy' => by
        have := (mem_o128 L j 1 y).mp hy
        have := (mem_o72 L j 1 y).mp hy'
        omega
    have s0 := pointsTo_union (ℓ := oLoc d) (q := fullShare) (f := f) e0 (Ix := HIx 1) (Name := ℕ) (U := UU) (Lvl := ℕ)
    have s1 := pointsTo_union (ℓ := oLoc d) (q := fullShare) (f := f) e1 (Ix := HIx 1) (Name := ℕ) (U := UU) (Lvl := ℕ)
    have s2 := pointsTo_union (ℓ := oLoc d) (q := fullShare) (f := f) e2 (Ix := HIx 1) (Name := ℕ) (U := UU) (Lvl := ℕ)
    refine (BI.Entails.antisymm s0.1 s0.2).trans (congrArg (BI.sep _) ((BI.Entails.antisymm s1.1 s1.2).trans (congrArg (BI.sep _) ?_)))
    exact BI.Entails.antisymm s2.1 s2.2

/-! ## The slots' buffers -/

/-- A slot's buffer lies at the slot's number. -/
theorem mem_buf128 (off : Fin 3 → ℕ) (h) (y : S4x128x128.Idx) (hy : y ∈ (buf128 off h).view.set) : (y 0).val = off 0 := by
  obtain ⟨x, -, rfl⟩ := Finset.mem_map.mp hy
  have := ((Shape.reshapeEquiv squeezes_S1x128x128_S128x128.numel_eq x) 0).isLt
  show off 0 + 1 * ((Shape.reshapeEquiv squeezes_S1x128x128_S128x128.numel_eq x) 0).val = off 0
  have h1 : S1x128x128.size 0 = 1 := rfl
  omega
theorem mem_buf72 (off : Fin 3 → ℕ) (h) (y : S4x128x128.Idx) (hy : y ∈ (buf72 off h).view.set) : (y 0).val = off 0 := by
  obtain ⟨x, -, rfl⟩ := Finset.mem_map.mp hy
  have := ((Shape.reshapeEquiv squeezes_S1x72x128_S72x128.numel_eq x) 0).isLt
  show off 0 + 1 * ((Shape.reshapeEquiv squeezes_S1x72x128_S72x128.numel_eq x) 0).val = off 0
  have h1 : S1x72x128.size 0 = 1 := rfl
  omega

/-- Elements held at some contents are a part of them and the rest, each at some contents. -/
theorem some_split {ℓ : Loc nD τ sig} {I S : Finset (Idx ℓ)} (h : I ⊆ S) :
    (iprop(∃ f, ℓ ↦[S]{fullShare} f) : sProp 𝕄) ⊣⊢ iprop((∃ f, ℓ ↦[I]{fullShare} f) ∗ ∃ f, ℓ ↦[S \ I]{fullShare} f) := by
  constructor
  · iintro ⟨%f, H⟩
    ihave H' := (pointsTo_split_subset h).1 $$ H
    icases H' with ⟨HI, HS⟩
    isplitl [HI]; · iexists f; iexact HI
    iexists f; iexact HS
  · iintro ⟨⟨%g, HI⟩, ⟨%f, HS⟩⟩
    iexists _
    iapply (pointsTo_join_subset h)
    isplitl [HI]; · iexact HI
    iexact HS

/-- The elements of the row scratch that no slot uses. -/
abbrev spare : Finset S4x128x128.Idx :=
  (((Finset.univ \ buf0.view.set) \ buf1.view.set) \ buf2.view.set) \ buf3.view.set

/-- The row scratch, at some contents. -/
abbrev bufSome (I : Finset S4x128x128.Idx) : sProp 𝕄 :=
  iprop(∃ f : Buf (Elt F) (bufM.view.loc (V d (cV L) (jV L))), bufM.view.loc (V d (cV L) (jV L)) ↦[I]{fullShare} f)

/-- The row scratch is the four slots' buffers and what is spare. -/
theorem bufs_split :
    (bufSome d L Finset.univ : sProp 𝕄)
      ⊣⊢ iprop(bufSome d L buf0.view.set ∗ bufSome d L buf1.view.set ∗ bufSome d L buf2.view.set ∗ bufSome d L buf3.view.set ∗ bufSome d L spare) := by
  have d01 : ∀ y, y ∈ buf1.view.set → y ∉ buf0.view.set := fun y h h' => absurd ((mem_buf72 _ _ y h).symm.trans (mem_buf128 _ _ y h')) (by decide)
  have d02 : ∀ y, y ∈ buf2.view.set → y ∉ buf0.view.set := fun y h h' => absurd ((mem_buf128 _ _ y h).symm.trans (mem_buf128 _ _ y h')) (by decide)
  have d03 : ∀ y, y ∈ buf3.view.set → y ∉ buf0.view.set := fun y h h' => absurd ((mem_buf72 _ _ y h).symm.trans (mem_buf128 _ _ y h')) (by decide)
  have d12 : ∀ y, y ∈ buf2.view.set → y ∉ buf1.view.set := fun y h h' => absurd ((mem_buf128 _ _ y h).symm.trans (mem_buf72 _ _ y h')) (by decide)
  have d13 : ∀ y, y ∈ buf3.view.set → y ∉ buf1.view.set := fun y h h' => absurd ((mem_buf72 _ _ y h).symm.trans (mem_buf72 _ _ y h')) (by decide)
  have d23 : ∀ y, y ∈ buf3.view.set → y ∉ buf2.view.set := fun y h h' => absurd ((mem_buf72 _ _ y h).symm.trans (mem_buf128 _ _ y h')) (by decide)
  have s0 := some_split (F := F) (ℓ := bufM.view.loc (V d (cV L) (jV L))) (Finset.subset_univ buf0.view.set)
  have s1 := some_split (F := F) (ℓ := bufM.view.loc (V d (cV L) (jV L))) (I := buf1.view.set) (S := Finset.univ \ buf0.view.set)
    (fun y h => Finset.mem_sdiff.mpr ⟨Finset.mem_univ _, d01 y h⟩)
  have s2 := some_split (F := F) (ℓ := bufM.view.loc (V d (cV L) (jV L))) (I := buf2.view.set) (S := (Finset.univ \ buf0.view.set) \ buf1.view.set)
    (fun y h => Finset.mem_sdiff.mpr ⟨Finset.mem_sdiff.mpr ⟨Finset.mem_univ _, d02 y h⟩, d12 y h⟩)
  have s3 := some_split (F := F) (ℓ := bufM.view.loc (V d (cV L) (jV L))) (I := buf3.view.set) (S := ((Finset.univ \ buf0.view.set) \ buf1.view.set) \ buf2.view.set)
    (fun y h => Finset.mem_sdiff.mpr ⟨Finset.mem_sdiff.mpr ⟨Finset.mem_sdiff.mpr ⟨Finset.mem_univ _, d03 y h⟩, d13 y h⟩, d23 y h⟩)
  constructor
  · iintro H
    ihave H' := s0.1 $$ H
    icases H' with ⟨H0, H⟩
    ihave H' := s1.1 $$ H
    icases H' with ⟨H1, H⟩
    ihave H' := s2.1 $$ H
    icases H' with ⟨H2, H⟩
    ihave H' := s3.1 $$ H
    icases H' with ⟨H3, H⟩
    isplitl [H0]; · iexact H0
    isplitl [H1]; · iexact H1
    isplitl [H2]; · iexact H2
    isplitl [H3]; · iexact H3
    iexact H
  · iintro ⟨H0, H1, H2, H3, H⟩
    iapply s0.2
    isplitl [H0]; · iexact H0
    iapply s1.2
    isplitl [H1]; · iexact H1
    iapply s2.2
    isplitl [H2]; · iexact H2
    iapply s3.2
    isplitl [H3]; · iexact H3
    iexact H

/-! ## The shares of the table and of the list -/

/-- A slot's piece of a share. -/
abbrev quarter (q : PosShare TreeShare) (b : Fin 4) : PosShare TreeShare := pieceOf q 4 (by decide) b

/-- Elements at a share are held at its four pieces at once. -/
theorem quarters {ℓ : Loc nD τ sig} (I : Finset (Idx ℓ)) (f : Buf (Elt F) ℓ) (q : PosShare TreeShare) :
    (ℓ ↦[I]{q} f : sProp 𝕄)
      = iprop((ℓ ↦[I]{quarter q 0} f) ∗ (ℓ ↦[I]{quarter q 1} f) ∗ (ℓ ↦[I]{quarter q 2} f) ∗ ℓ ↦[I]{quarter q 3} f) :=
  (pointsTo_piecesOf I f (by decide) q).trans (bigSep_univ_eq_bigSepL [0, 1, 2, 3] (by decide) (by decide) _)

/-- The gathers' view of the table is all of it. -/
theorem set_tabAll : tabAll.view.set = (Finset.univ : Finset S100000x128.Idx) := by
  refine Finset.eq_univ_iff_forall.mpr fun y => ?_
  refine (Finset.ext_iff.mp (View.set_slice_whole (main_arg1_scv : Ref sig .scVector) _) y).mpr ?_
  refine Rect.mem_set_unit.mpr fun a => ?_
  match a with
  | ⟨0, _⟩ => exact ⟨Nat.zero_le _, (Nat.zero_add 100000).symm ▸ (y 0).isLt⟩
  | ⟨1, _⟩ => exact ⟨Nat.zero_le _, (Nat.zero_add 128).symm ▸ (y 1).isLt⟩

theorem pts_tabAll (q : PosShare TreeShare) (f : Buf (Elt F) (xLoc d)) :
    (pts d (cV L) (jV L) tabAll q f : sProp 𝕄) = xLoc d ↦{q} f :=
  congrArg (fun I => (xLoc d ↦[I]{q} f : sProp 𝕄)) set_tabAll

/-! ## A slot at rest -/

/-- What a slot holds while none of its copies is in flight. -/
abbrev Idle {s : Shape} (gs ws : DmaSem sig) (buf : Memref sig .scVector .vmem s .f32) (qx ql : PosShare TreeShare) : sProp 𝕄 :=
  iprop(pts d (cV L) (jV L) tabAll qx (m (xLoc d)) ∗ (∃ f, pts d (cV L) (jV L) buf fullShare f)
    ∗ semVal ((V d (cV L) (jV L) : Thread nD τ), SemLoc.dma gs) 0 ∗ semVal ((V d (cV L) (jV L) : Thread nD τ), SemLoc.dma ws) 0
    ∗ lstPts m d L ql Finset.univ)

variable {m d L} {O : CellTallies nD τ sig (HIx 1)} {W : Waits sig (HIx 1)} {α : Type}

/-- The first gather of a slot of 128 rows. -/
theorem start128 (hpre : PreOK m) (gs ws : DmaSem sig) (buf : Memref sig .scVector .vmem S128x128 .f32) (qx ql : PosShare TreeShare) (r : Fin 2)
    (hN : ∑ j, (buf.slice (S128x128.rowRect gathers_S100000x128_S128x128.axis' j) (S128x128.stride_rowRect gathers_S100000x128_S128x128.axis' j)).view.dmaCredit
      = buf.view.dmaCredit)
    {lst : Memref sig .scVector .vmem S128 .i32} (hl : lst = l128 0 r)
    (kk : PUnit → Prog (TpuEff nD τ sig (Elt F) Λ₀ (.scVector (cV L) (jV L))) α) (Q : α → sProp 𝕄) :
    Idle m d L gs ws buf qx ql
      ⊢ iprop((fill128 m d L gs ws r qx ql buf 0 -∗ wp frame (wpE (defs₀ (F := F)) 𝒱₀ (V d (cV L) (jV L)) none) Set.univ (kk ⟨⟩) Q)
        -∗ wp frame (wpE (defs₀ (F := F)) 𝒱₀ (V d (cV L) (jV L)) none) Set.univ (fetch gs buf lst gathers_S100000x128_S128x128 rfl >>= kk) Q) := by
  subst hl
  have h := wp_fetch (c := cV L) (i := jV L) gs ws buf (l128 0 r) (o128 L 0 r) qx ql (m (xLoc d)) (Lst m d L : S32x200.Idx → Elt F .i32) (Out m d)
    (lstPts m d L ql (Finset.univ \ (l128 0 r).view.set)) gathers_S100000x128_S128x128 rfl hN (by decide) (l128_lt d L hpre 0 r) (payload128 d L hpre 0 r _ _ _) kk Q
  iintro ⟨Hx, Hb, Hgs, Hws, Hl⟩
  ihave Hl' := (lstPts_128 m d L ql 0 r).1 $$ Hl
  icases Hl' with ⟨Hl, HR⟩
  iapply h
  isplitl [Hx]; · iexact Hx
  isplitl [Hb]; · iexact Hb
  isplitl [Hl]; · iexact Hl
  isplitl [Hgs]; · iexact Hgs
  isplitl [Hws]; · iexact Hws
  iexact HR

/-- The first gather of a slot of 72 rows. -/
theorem start72 (hpre : PreOK m) (gs ws : DmaSem sig) (buf : Memref sig .scVector .vmem S72x128 .f32) (qx ql : PosShare TreeShare) (r : Fin 2)
    (hN : ∑ j, (buf.slice (S72x128.rowRect gathers_S100000x128_S72x128.axis' j) (S72x128.stride_rowRect gathers_S100000x128_S72x128.axis' j)).view.dmaCredit
      = buf.view.dmaCredit)
    {lst : Memref sig .scVector .vmem S72 .i32} (hl : lst = l72 0 r)
    (kk : PUnit → Prog (TpuEff nD τ sig (Elt F) Λ₀ (.scVector (cV L) (jV L))) α) (Q : α → sProp 𝕄) :
    Idle m d L gs ws buf qx ql
      ⊢ iprop((fill72 m d L gs ws r qx ql buf 0 -∗ wp frame (wpE (defs₀ (F := F)) 𝒱₀ (V d (cV L) (jV L)) none) Set.univ (kk ⟨⟩) Q)
        -∗ wp frame (wpE (defs₀ (F := F)) 𝒱₀ (V d (cV L) (jV L)) none) Set.univ (fetch gs buf lst gathers_S100000x128_S72x128 rfl >>= kk) Q) := by
  subst hl
  have h := wp_fetch (c := cV L) (i := jV L) gs ws buf (l72 0 r) (o72 L 0 r) qx ql (m (xLoc d)) (Lst m d L : S32x200.Idx → Elt F .i32) (Out m d)
    (lstPts m d L ql (Finset.univ \ (l72 0 r).view.set)) gathers_S100000x128_S72x128 rfl hN (by decide) (l72_lt d L hpre 0 r) (payload72 d L hpre 0 r _ _ _) kk Q
  iintro ⟨Hx, Hb, Hgs, Hws, Hl⟩
  ihave Hl' := (lstPts_72 m d L ql 0 r).1 $$ Hl
  icases Hl' with ⟨Hl, HR⟩
  iapply h
  isplitl [Hx]; · iexact Hx
  isplitl [Hb]; · iexact Hb
  isplitl [Hl]; · iexact Hl
  isplitl [Hgs]; · iexact Hgs
  isplitl [Hws]; · iexact Hws
  iexact HR

/-- The task's semaphores beside the one of the index copy: a pair per slot, all at zero. -/
abbrev sem0 (s : DmaSem sig) : sProp 𝕄 := semVal ((V d (cV L) (jV L) : Thread nD τ), SemLoc.dma s) 0

/-- The four slots at rest and the spare rows, put together from the task's shares and scratch; and taken apart. -/
theorem idles_iff (q : PosShare TreeShare) :
    (iprop((xLoc d ↦{q} m (xLoc d)) ∗ lstPts m d L fullShare Finset.univ ∗ bufSome d L Finset.univ
        ∗ (sem0 cc0_scratch2.sem (d := d) (L := L) ∗ sem0 cc0_scratch3.sem (d := d) (L := L) ∗ sem0 cc0_scratch4.sem (d := d) (L := L) ∗ sem0 cc0_scratch5.sem (d := d) (L := L))
        ∗ (sem0 cc0_scratch6.sem (d := d) (L := L) ∗ sem0 cc0_scratch7.sem (d := d) (L := L) ∗ sem0 cc0_scratch8.sem (d := d) (L := L) ∗ sem0 cc0_scratch9.sem (d := d) (L := L))) : sProp 𝕄)
      ⊣⊢ iprop(Idle m d L cc0_scratch2.sem cc0_scratch6.sem buf0 (quarter q 0) (quarter fullShare 0)
        ∗ Idle m d L cc0_scratch3.sem cc0_scratch7.sem buf1 (quarter q 1) (quarter fullShare 1)
        ∗ Idle m d L cc0_scratch4.sem cc0_scratch8.sem buf2 (quarter q 2) (quarter fullShare 2)
        ∗ Idle m d L cc0_scratch5.sem cc0_scratch9.sem buf3 (quarter q 3) (quarter fullShare 3)
        ∗ bufSome d L spare) := by
  have ex : (xLoc d ↦{q} m (xLoc d) : sProp 𝕄) = iprop(pts d (cV L) (jV L) tabAll (quarter q 0) (m (xLoc d)) ∗ pts d (cV L) (jV L) tabAll (quarter q 1) (m (xLoc d))
      ∗ pts d (cV L) (jV L) tabAll (quarter q 2) (m (xLoc d)) ∗ pts d (cV L) (jV L) tabAll (quarter q 3) (m (xLoc d))) := by
    rw [pts_tabAll, pts_tabAll, pts_tabAll, pts_tabAll]
    exact quarters _ _ _
  have el := quarters (F := F) (ℓ := lstM.view.loc (V d (cV L) (jV L))) Finset.univ (Lst m d L : S32x200.Idx → Elt F .i32) fullShare
  constructor
  · iintro ⟨Hx, Hl, Hb, ⟨Hg0, Hg1, Hg2, Hg3⟩, ⟨Hw0, Hw1, Hw2, Hw3⟩⟩
    ihave Hx' := (Entails.of_eq ex) $$ Hx
    icases Hx' with ⟨Hx0, Hx1, Hx2, Hx3⟩
    ihave Hl' := (Entails.of_eq el) $$ Hl
    icases Hl' with ⟨Hl0, Hl1, Hl2, Hl3⟩
    ihave Hb' := (bufs_split d L).1 $$ Hb
    icases Hb' with ⟨Hb0, Hb1, Hb2, Hb3, Hb⟩
    isplitl [Hx0 Hb0 Hg0 Hw0 Hl0]
    · isplitl [Hx0]; · iexact Hx0
      isplitl [Hb0]; · iexact Hb0
      isplitl [Hg0]; · iexact Hg0
      isplitl [Hw0]; · iexact Hw0
      iexact Hl0
    isplitl [Hx1 Hb1 Hg1 Hw1 Hl1]
    · isplitl [Hx1]; · iexact Hx1
      isplitl [Hb1]; · iexact Hb1
      isplitl [Hg1]; · iexact Hg1
      isplitl [Hw1]; · iexact Hw1
      iexact Hl1
    isplitl [Hx2 Hb2 Hg2 Hw2 Hl2]
    · isplitl [Hx2]; · iexact Hx2
      isplitl [Hb2]; · iexact Hb2
      isplitl [Hg2]; · iexact Hg2
      isplitl [Hw2]; · iexact Hw2
      iexact Hl2
    isplitl [Hx3 Hb3 Hg3 Hw3 Hl3]
    · isplitl [Hx3]; · iexact Hx3
      isplitl [Hb3]; · iexact Hb3
      isplitl [Hg3]; · iexact Hg3
      isplitl [Hw3]; · iexact Hw3
      iexact Hl3
    iexact Hb
  · iintro ⟨⟨Hx0, Hb0, Hg0, Hw0, Hl0⟩, ⟨Hx1, Hb1, Hg1, Hw1, Hl1⟩, ⟨Hx2, Hb2, Hg2, Hw2, Hl2⟩, ⟨Hx3, Hb3, Hg3, Hw3, Hl3⟩, Hb⟩
    isplitl [Hx0 Hx1 Hx2 Hx3]
    · iapply (Entails.of_eq ex.symm)
      isplitl [Hx0]; · iexact Hx0
      isplitl [Hx1]; · iexact Hx1
      isplitl [Hx2]; · iexact Hx2
      iexact Hx3
    isplitl [Hl0 Hl1 Hl2 Hl3]
    · iapply (Entails.of_eq el.symm)
      isplitl [Hl0]; · iexact Hl0
      isplitl [Hl1]; · iexact Hl1
      isplitl [Hl2]; · iexact Hl2
      iexact Hl3
    isplitl [Hb0 Hb1 Hb2 Hb3 Hb]
    · iapply (bufs_split d L).2
      isplitl [Hb0]; · iexact Hb0
      isplitl [Hb1]; · iexact Hb1
      isplitl [Hb2]; · iexact Hb2
      isplitl [Hb3]; · iexact Hb3
      iexact Hb
    isplitl [Hg0 Hg1 Hg2 Hg3]
    · isplitl [Hg0]; · iexact Hg0
      isplitl [Hg1]; · iexact Hg1
      isplitl [Hg2]; · iexact Hg2
      iexact Hg3
    isplitl [Hw0]; · iexact Hw0
    isplitl [Hw1]; · iexact Hw1
    isplitl [Hw2]; · iexact Hw2
    iexact Hw3

/-! ## The copy of the indices -/

/-- The task's 32 rows of the index array. -/
abbrev idxRows (L : grid0.Coords) : Memref sig .scVector .hbm S32x200 .i32 :=
  idxM.slice (Rect.unit (s := S1024x200) (k0_off1 L) S32x200.size (k0_off1_inb L)) (fun _ => rfl)

/-- They read as the task's list. -/
theorem read_idxRows : (idxRows L).view.read (Elt F) (m (iLoc d)) = (Lst m d L : S32x200.Idx → Elt F .i32) := by
  funext y
  rw [View.read_apply]
  refine (cast_eq _ _).trans (congrArg (m (iLoc d)) ?_)
  funext b
  refine Fin.ext ?_
  match b with
  | ⟨0, _⟩ =>
    show k0_off1 L 0 + 1 * (y 0).val = 64 * (L 1).val + 32 * (L 0).val + (y 0).val
    rw [k0_off1_eq, Nat.one_mul]; rfl
  | ⟨1, _⟩ =>
    show k0_off1 L 1 + 1 * (y 1).val = (y 1).val
    rw [k0_off1_eq, Nat.one_mul]
    exact Nat.zero_add _

/-! ## The task -/

set_option maxRecDepth 16384 in
set_option maxHeartbeats 4000000 in
/-- The four slots at rest, the trips, and the slots at rest again, with all the task's rows of the output at `Out`. -/
theorem wp_trips (hpre : PreOK m) (qx ql : Fin 4 → PosShare TreeShare) (f₀ : S204800x128.Idx → Elt F .f32) :
    iprop(Transfers.MayWaits (V d (cV L) (jV L)) (none : HIx 1) O
        ∗ (Idle m d L cc0_scratch2.sem cc0_scratch6.sem buf0 (qx 0) (ql 0) ∗ Idle m d L cc0_scratch3.sem cc0_scratch7.sem buf1 (qx 1) (ql 1)
          ∗ Idle m d L cc0_scratch4.sem cc0_scratch8.sem buf2 (qx 2) (ql 2) ∗ Idle m d L cc0_scratch5.sem cc0_scratch9.sem buf3 (qx 3) (ql 3))
        ∗ (oLoc d ↦[taskRows L]{fullShare} f₀) ∗ Owing d (cV L) (jV L) O W)
      ⊢ wp frame (wpE (defs₀ (F := F)) 𝒱₀ (V d (cV L) (jV L)) none) Set.univ (trips L) fun _ =>
          iprop((Idle m d L cc0_scratch2.sem cc0_scratch6.sem buf0 (qx 0) (ql 0) ∗ Idle m d L cc0_scratch3.sem cc0_scratch7.sem buf1 (qx 1) (ql 1)
            ∗ Idle m d L cc0_scratch4.sem cc0_scratch8.sem buf2 (qx 2) (ql 2) ∗ Idle m d L cc0_scratch5.sem cc0_scratch9.sem buf3 (qx 3) (ql 3))
          ∗ (oLoc d ↦[taskRows L]{fullShare} Out m d) ∗ Owing d (cV L) (jV L) O W) := by
  unfold trips
  rw [task_blocks, task_blocks]
  iintro ⟨#Hmw, ⟨HI0, HI1, HI2, HI3⟩, Ho, HO⟩
  iapply (start128 hpre cc0_scratch2.sem cc0_scratch6.sem buf0 (qx 0) (ql 0) 0 (by decide +kernel) (lst128_congr rfl _ _) _ _) $$ HI0
  iintro HF0
  iapply (start72 hpre cc0_scratch3.sem cc0_scratch7.sem buf1 (qx 1) (ql 1) 0 (by decide +kernel) (lst72_congr rfl _ _) _ _) $$ HI1
  iintro HF1
  iapply (start128 hpre cc0_scratch4.sem cc0_scratch8.sem buf2 (qx 2) (ql 2) 1 (by decide +kernel) (lst128_congr rfl _ _) _ _) $$ HI2
  iintro HF2
  iapply (start72 hpre cc0_scratch5.sem cc0_scratch9.sem buf3 (qx 3) (ql 3) 1 (by decide +kernel) (lst72_congr rfl _ _) _ _) $$ HI3
  iintro HF3
  have hbody : ∀ (k : Fin k0_t1_loop.trips) (acc : Unit), Trips m d L qx ql O W f₀ k.val acc
      ⊢ wp frame (wpE (defs₀ (F := F)) 𝒱₀ (V d (cV L) (jV L)) none) Set.univ ((fun k (_ : Unit) => turns L k) k acc) (Trips m d L qx ql O W f₀ (k.val + 1)) :=
    fun k acc => trip m d L qx ql O W k hpre f₀ acc
  iapply (Scf.wp_for_bind frame (wpE (defs₀ (F := F)) 𝒱₀ (V d (cV L) (jV L)) none) Set.univ k0_t1_loop.lb k0_t1_loop.ub k0_t1_loop.st k0_t1_ok ()
    (fun k (_ : Unit) => turns L k) (Trips m d L qx ql O W f₀) hbody) $$ [Ho HF0 HF1 HF2 HF3 HO]
  · iapply (Entails.of_eq (show iprop(Transfers.MayWaits (V d (cV L) (jV L)) (none : HIx 1) O
        ∗ (bigSep Finset.univ fun j : Fin 16 => block d L j f₀) ∗ fills m d L qx ql 0 ∗ Owing d (cV L) (jV L) O W) = Trips m d L qx ql O W f₀ 0 () from by
      unfold Trips
      rw [dif_pos (by decide)]
      rfl))
    unfold fills
    isplitr; · iexact Hmw
    isplitl [Ho]; · iexact Ho
    isplitl [HF0 HF1 HF2 HF3]
    · isplitl [HF0]; · iexact HF0
      isplitl [HF1]; · iexact HF1
      isplitl [HF2]; · iexact HF2
      iexact HF3
    iexact HO
  iintro %acc HT
  ihave HT' := (Entails.of_eq (show Trips m d L qx ql O W f₀ k0_t1_loop.trips acc = iprop(Transfers.MayWaits (V d (cV L) (jV L)) (none : HIx 1) O
      ∗ (bigSep (Finset.univ.erase 15) fun j : Fin 16 => block d L j (Out m d))
      ∗ spills m d L qx ql 15 ∗ Owing d (cV L) (jV L) O W) from by
    rw [trips_eq]; exact dif_neg (by decide))) $$ HT
  unfold spills spill128 spill72
  icases HT' with ⟨-, Hrest, ⟨HS0, HS1, HS2, HS3⟩, HO⟩
  iapply (wp_drain cc0_scratch2.sem cc0_scratch6.sem buf0 (o128 L 15 0) _ (qx 0) (m (xLoc d)) (Out m d) (lstPts m d L (ql 0) Finset.univ) rfl _ _) $$ [HS0 HO]
  · isplitr; · iexact Hmw
    isplitl [HS0]; · iexact HS0
    iexact HO
  iintro ⟨⟨Ho0, HO⟩, HI0⟩
  iapply (wp_drain cc0_scratch3.sem cc0_scratch7.sem buf1 (o72 L 15 0) _ (qx 1) (m (xLoc d)) (Out m d) (lstPts m d L (ql 1) Finset.univ) rfl _ _) $$ [HS1 HO]
  · isplitr; · iexact Hmw
    isplitl [HS1]; · iexact HS1
    iexact HO
  iintro ⟨⟨Ho1, HO⟩, HI1⟩
  iapply (wp_drain cc0_scratch4.sem cc0_scratch8.sem buf2 (o128 L 15 1) _ (qx 2) (m (xLoc d)) (Out m d) (lstPts m d L (ql 2) Finset.univ) rfl _ _) $$ [HS2 HO]
  · isplitr; · iexact Hmw
    isplitl [HS2]; · iexact HS2
    iexact HO
  iintro ⟨⟨Ho2, HO⟩, HI2⟩
  iapply (wp_drain cc0_scratch5.sem cc0_scratch9.sem buf3 (o72 L 15 1) _ (qx 3) (m (xLoc d)) (Out m d) (lstPts m d L (ql 3) Finset.univ) rfl _ _) $$ [HS3 HO]
  · isplitr; · iexact Hmw
    isplitl [HS3]; · iexact HS3
    iexact HO
  iintro ⟨⟨Ho3, HO⟩, HI3⟩
  sl_step
  isplitl [HI0 HI1 HI2 HI3]
  · isplitl [HI0]; · iexact HI0
    isplitl [HI1]; · iexact HI1
    isplitl [HI2]; · iexact HI2
    iexact HI3
  isplitr [HO]
  · rw [SparseCore.bigSep_erase' (Finset.mem_univ (15 : Fin 16))]
    isplitr [Hrest]
    · unfold block
      isplitl [Ho0]; · iexact Ho0
      isplitl [Ho1]; · iexact Ho1
      isplitl [Ho2]; · iexact Ho2
      iexact Ho3
    iexact Hrest
  iexact HO

/-- The task: from its shares of the index array and of the table, its rows of the output, its two scratch buffers at
    some contents and its nine semaphores at zero, to the same with its rows of the output at `Out`. -/
theorem wp_task (hpre : PreOK m) (q : PosShare TreeShare) (f₀ : S204800x128.Idx → Elt F .f32) (fl : Buf (Elt F) (lstM.view.loc (V d (cV L) (jV L)))) :
    iprop(Transfers.MayWaits (V d (cV L) (jV L)) (none : HIx 1) O
        ∗ (iLoc d ↦{q} m (iLoc d)) ∗ (xLoc d ↦{q} m (xLoc d)) ∗ (oLoc d ↦[taskRows L]{fullShare} f₀)
        ∗ (lstM.view.loc (V d (cV L) (jV L)) ↦{fullShare} fl) ∗ bufSome d L Finset.univ
        ∗ ((sem0 cc0_scratch2.sem (d := d) (L := L) ∗ sem0 cc0_scratch3.sem (d := d) (L := L) ∗ sem0 cc0_scratch4.sem (d := d) (L := L) ∗ sem0 cc0_scratch5.sem (d := d) (L := L))
          ∗ (sem0 cc0_scratch6.sem (d := d) (L := L) ∗ sem0 cc0_scratch7.sem (d := d) (L := L) ∗ sem0 cc0_scratch8.sem (d := d) (L := L) ∗ sem0 cc0_scratch9.sem (d := d) (L := L))
          ∗ sem0 cc0_scoped0.sem (d := d) (L := L))
        ∗ Owing d (cV L) (jV L) O W)
      ⊢ wp frame (wpE (defs₀ (F := F)) 𝒱₀ (V d (cV L) (jV L)) none) Set.univ (task L) fun _ =>
          iprop(((iLoc d ↦{q} m (iLoc d)) ∗ (xLoc d ↦{q} m (xLoc d)) ∗ (oLoc d ↦[taskRows L]{fullShare} Out m d))
            ∗ ((∃ f, lstM.view.loc (V d (cV L) (jV L)) ↦{fullShare} f) ∗ bufSome d L Finset.univ)
            ∗ ((sem0 cc0_scratch2.sem (d := d) (L := L) ∗ sem0 cc0_scratch3.sem (d := d) (L := L) ∗ sem0 cc0_scratch4.sem (d := d) (L := L) ∗ sem0 cc0_scratch5.sem (d := d) (L := L))
              ∗ (sem0 cc0_scratch6.sem (d := d) (L := L) ∗ sem0 cc0_scratch7.sem (d := d) (L := L) ∗ sem0 cc0_scratch8.sem (d := d) (L := L) ∗ sem0 cc0_scratch9.sem (d := d) (L := L))
              ∗ sem0 cc0_scoped0.sem (d := d) (L := L))
            ∗ Owing d (cV L) (jV L) O W) := by
  unfold task
  iintro ⟨#Hmw, Hi, Hx, Ho, Hl, Hb, ⟨Hgs, Hws, Hc⟩, HO⟩
  ihave Hi' := (pointsTo_split_subset (q := q) (f := m (iLoc d)) (S := Finset.univ) (Finset.subset_univ (idxRows L).view.set)).1 $$ Hi
  icases Hi' with ⟨Hi, Hir⟩
  iapply (Transfers.wp_dmaLocal countersEmb 𝒱₀ (V d (cV L) (jV L)) none (src := idxRows L) (dst := lstM) (none : HIx 1) lstM.view.dmaCredit rfl
    (View.dmaCredit_pos _ (by decide)) (Finset.subset_univ _)) $$ [Hi Hl Hc]
  · isplitl [Hi]; · iexact Hi
    isplitl [Hl]; · iexact Hl
    iexact Hc
  iintro Hfl
  ihave HO' := (Entails.of_eq (show Owing d (cV L) (jV L) O W = iprop(∃ W', ⌜∀ p ∈ W', p ∈ W ∨ p.2 = none⌝ ∗ owes (V d (cV L) (jV L)) O W') from rfl)) $$ HO
  icases HO' with ⟨%W', %hW', HO⟩
  iapply (Transfers.wp_waitLocalO countersEmb 𝒱₀ (V d (cV L) (jV L)) none (none : HIx 1) (rfl : lstM.view.dmaCredit = _)) $$ [Hfl HO]
  · isplitl [Hfl]; · iexact Hfl
    isplitl [HO]; · iexact HO
    iapply (Transfers.MayWaits.elim (SemLoc.dma cc0_scoped0.sem)) $$ Hmw
  iintro ⟨⟨Hl, Hi⟩, Hc, HO⟩
  ihave Hl' := (Entails.of_eq (show (lstM.view.loc (V d (cV L) (jV L)) ↦{fullShare} _ : sProp 𝕄) = lstPts m d L fullShare Finset.univ from
    congrArg (fun f => (lstM.view.loc (V d (cV L) (jV L)) ↦{fullShare} f : sProp 𝕄)) ((View.write_whole_univ _ _ _).trans read_idxRows))) $$ Hl
  ihave HI := (idles_iff q).1 $$ [Hx Hl' Hb Hgs Hws]
  · isplitl [Hx]; · iexact Hx
    isplitl [Hl']; · iexact Hl'
    isplitl [Hb]; · iexact Hb
    isplitl [Hgs]; · iexact Hgs
    iexact Hws
  icases HI with ⟨HI0, HI1, HI2, HI3, Hb⟩
  ihave Hw := (wp_trips hpre (quarter q) (quarter fullShare) f₀ (O := O) (W := W)) $$ [HI0 HI1 HI2 HI3 Ho HO]
  · isplitr; · iexact Hmw
    isplitl [HI0 HI1 HI2 HI3]
    · isplitl [HI0]; · iexact HI0
      isplitl [HI1]; · iexact HI1
      isplitl [HI2]; · iexact HI2
      iexact HI3
    isplitl [Ho]; · iexact Ho
    unfold Owing
    iexists _
    isplitr
    swap; · iexact HO
    ipureintro
    intro p hp
    rcases Finset.mem_insert.mp hp with hp | hp
    · exact .inr (hp ▸ rfl)
    · exact hW' p hp
  iapply (wp_wand _ _ _) $$ Hw
  iintro %_ ⟨⟨HI0, HI1, HI2, HI3⟩, Ho, HO⟩
  ihave HI := (idles_iff q).2 $$ [HI0 HI1 HI2 HI3 Hb]
  · isplitl [HI0]; · iexact HI0
    isplitl [HI1]; · iexact HI1
    isplitl [HI2]; · iexact HI2
    isplitl [HI3]; · iexact HI3
    iexact Hb
  icases HI with ⟨Hx, Hl, Hb, Hgs, Hws⟩
  isplitl [Hi Hir Hx Ho]
  · isplitl [Hi Hir]
    · iapply (pointsTo_split_subset (q := q) (f := m (iLoc d)) (S := Finset.univ) (Finset.subset_univ (idxRows L).view.set)).2
      isplitl [Hi]; · iexact Hi
      iexact Hir
    isplitl [Hx]; · iexact Hx
    iexact Ho
  isplitl [Hl Hb]
  · isplitl [Hl]; · iexists _; iexact Hl
    iexact Hb
  isplitl [Hgs Hws Hc]
  · isplitl [Hgs]; · iexact Hgs
    isplitl [Hws]; · iexact Hws
    iexact Hc
  iexact HO

end Cert.Proof.OfKernelIdeal

end
-- ==== Proof.LaunchKernelIdeal.lean ====
/-
  The call, proved: what it hands each SparseCore and each task, what they bring back, and that a task does what
  it is asked.

  The index array and the table are read by every task: each SparseCore gets half of the full share of either, each
  of its sixteen tasks a sixteenth of that half. The output is cut by rows: a task gets the 6400 rows it fills, a
  SparseCore those of its tasks. They come back with the output at `Out`.
-/
module

public import proofs.«01_k».proof.Proof.BodyKernelIdeal
public import Idealize.ShloMosaic.Lib.SparseCore.Quiescent
public import Idealize.ShloMosaic.Lib.SparseCore.Scatter
public import Idealize.ShloMosaic.Lib.StableHlo.Run

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch -/

/-- The program's SparseCore call, its kernels' bodies, and the bound its tasks run at. -/
abbrev K : SparseCore.Cfg τ sig (Pipeline.Sig Λ₀ (Fin 0) fun p => (pcfgs (F := F) p).Adm) 1 := sc (F := F)
abbrev D [FloatOps F] : Defs nD τ sig (Elt F) (Pipeline.Sig Λ₀ (Fin 0) fun p => (pcfgs (F := F) p).Adm) := Pipeline.defs pcfgs defs₀
abbrev 𝒱 : Variants := 𝒱₀.lift
abbrev v₀ : 𝒱.V := Sum.inl none

/-- The call's grid. -/
theorem nCore_zero : (K (F := F)).nCore 0 = 2 := rfl
theorem nSub_zero : (K (F := F)).nSub 0 = 16 := rfl

/-- The launch's semaphores are distinct and none of a kernel's own; no buffer is a SparseCore's shared one. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The task of SparseCore `c` on tile `s`. -/
def coords (c : Fin (grid0.bound 0)) (s : Fin (grid0.bound 1)) : grid0.Coords :=
  fun | 0 => c | 1 => s | ⟨_ + 2, h⟩ => absurd h (Nat.not_lt.2 (Nat.le_add_left _ _))

/-! ## What each gets -/

/-- A SparseCore's share of what is read, and a task's. -/
abbrev coreShare (c : Fin 2) : PosShare TreeShare := pieceOf fullShare 2 (by decide) c
abbrev taskShare (c : Fin 2) (i : Fin 16) : PosShare TreeShare := pieceOf (coreShare c) 16 (by decide) i

/-- A SparseCore's rows of the output. -/
abbrev coreRows (c : Fin 2) : Finset S204800x128.Idx := Finset.univ.filter fun y => owner y % 2 = c.val

variable (m : (ℓ : Loc nD τ sig) → Buf (Elt F) ℓ)

/-- The operands at share `q` of what is read, and the rows `I` of the output at `f`. -/
abbrev operands (d : Dev nD) (q : PosShare TreeShare) (I : Finset S204800x128.Idx) (f : S204800x128.Idx → Elt F .f32) : sProp 𝕄 :=
  iprop((iLoc d ↦{q} m (iLoc d)) ∗ (xLoc d ↦{q} m (xLoc d)) ∗ (oLoc d ↦[I]{fullShare} f))

/-- A SparseCore's operands, and a task's. -/
abbrev coreOps (d : Dev nD) (c : Fin 2) (f : S204800x128.Idx → Elt F .f32) : sProp 𝕄 := operands m d (coreShare c) (coreRows c) f
abbrev taskOps (d : Dev nD) (c : Fin 2) (i : Fin 16) (f : S204800x128.Idx → Elt F .f32) : sProp 𝕄 :=
  operands m d (taskShare c i) (taskRows (coords c i)) f

/-- What the call's signals carry: operands out with the output as it was, and back with the output at `Out`. -/
def P : (K (F := F)).Pay (nD := nD) (Val := Elt F) (Name := ℕ) (U := UU) where
  st := fun q d c => match q with | 0 => coreOps m d (Fin.cast nCore_zero c) (m (oLoc d))
  dn := fun q d c => match q with | 0 => coreOps m d (Fin.cast nCore_zero c) (Out m d)
  go := fun q d c i => match q with | 0 => taskOps m d (Fin.cast nCore_zero c) (Fin.cast nSub_zero i) (m (oLoc d))
  td := fun q d c i => match q with | 0 => taskOps m d (Fin.cast nCore_zero c) (Fin.cast nSub_zero i) (Out m d)
  x := fun _ _ => iprop(emp)

instance P_storable : (P (F := F) m).IsStorable where
  st q d c := match q with
    | 0 => (inferInstance : BI.Storable (upEmb : UEmb _ 𝕄) (coreOps m d (Fin.cast nCore_zero c) (m (oLoc d))))
  dn q d c := match q with
    | 0 => (inferInstance : BI.Storable (upEmb : UEmb _ 𝕄) (coreOps m d (Fin.cast nCore_zero c) (Out m d)))
  go q d c i := match q with
    | 0 => (inferInstance : BI.Storable (upEmb : UEmb _ 𝕄) (taskOps m d (Fin.cast nCore_zero c) (Fin.cast nSub_zero i) (m (oLoc d))))
  td q d c i := match q with
    | 0 => (inferInstance : BI.Storable (upEmb : UEmb _ 𝕄) (taskOps m d (Fin.cast nCore_zero c) (Fin.cast nSub_zero i) (Out m d)))

/-! ## The operands split and join -/

/-- Operands at a share and rows are those at the share's pieces and the rows' parts. -/
theorem operands_split {n : ℕ} (hn : 0 < n) (d : Dev nD) (q : PosShare TreeShare) (I : Finset S204800x128.Idx) (J : Fin n → Finset S204800x128.Idx)
    (hd : ∀ a b : Fin n, a ≠ b → Disjoint (J a) (J b)) (hc : Finset.univ.biUnion J = I) (f : S204800x128.Idx → Elt F .f32) :
    (operands m d q I f : sProp 𝕄) = bigSep Finset.univ fun a : Fin n => operands m d (pieceOf q n hn a) (J a) f := by
  subst hc
  unfold operands
  rw [bigSep_sep', bigSep_sep']
  exact congr (congrArg BI.sep (pointsTo_piecesOf Finset.univ _ hn q)) (congr (congrArg BI.sep (pointsTo_piecesOf Finset.univ _ hn q))
    (pointsTo_biUnion (ℓ := oLoc d) Finset.univ J (fun a _ b _ => hd a b)))

/-- The two SparseCores' operands. -/
theorem cores_split (d : Dev nD) (f : S204800x128.Idx → Elt F .f32) :
    (operands m d fullShare Finset.univ f : sProp 𝕄) = bigSep Finset.univ fun c : Fin 2 => coreOps m d c f := by
  refine operands_split m (by decide) d fullShare Finset.univ coreRows (fun a b h => Finset.disjoint_left.mpr fun y hy hy' => h (Fin.ext ?_))
    (Finset.eq_univ_iff_forall.mpr fun y => Finset.mem_biUnion.mpr ⟨⟨owner y % 2, Nat.mod_lt _ (by decide)⟩, Finset.mem_univ _,
      Finset.mem_filter.mpr ⟨Finset.mem_univ _, rfl⟩⟩) f
  exact (Finset.mem_filter.mp hy).2.symm.trans (Finset.mem_filter.mp hy').2

/-- A SparseCore's sixteen tasks' operands. -/
theorem tasks_split (d : Dev nD) (c : Fin 2) (f : S204800x128.Idx → Elt F .f32) :
    (coreOps m d c f : sProp 𝕄) = bigSep Finset.univ fun i : Fin 16 => taskOps m d c i f := by
  have mem (i : Fin 16) (y : S204800x128.Idx) : y ∈ taskRows (coords c i) ↔ owner y = 2 * i.val + c.val :=
    Finset.mem_filter.trans (and_iff_right (Finset.mem_univ y))
  refine operands_split m (by decide) d (coreShare c) (coreRows c) (fun i => taskRows (coords c i))
    (fun a b h => Finset.disjoint_left.mpr fun y hy hy' => h (Fin.ext ?_)) (Finset.ext fun y => ?_) f
  · have := (mem a y).mp hy
    have := (mem b y).mp hy'
    omega
  · refine Finset.mem_biUnion.trans (Iff.trans ?_ (Finset.mem_filter.trans (and_iff_right (Finset.mem_univ y))).symm)
    have hy : owner y < 32 := by have : (y 0).val < 204800 := (y 0).isLt; unfold owner; omega
    constructor
    · rintro ⟨i, -, hi⟩
      have := (mem i y).mp hi
      omega
    · intro h
      exact ⟨⟨owner y / 2, by show owner y / 2 < 16; omega⟩, Finset.mem_univ _, (mem _ y).mpr (by show owner y = 2 * (owner y / 2) + c.val; omega)⟩

/-! ## A tile's own buffers and semaphores -/

section Tile

variable (d : Dev nD) (L : grid0.Coords)

/-- A tile's own buffers: the copy of the indices, the row scratch, and others. -/
theorem ownBufs_tile :
    (ownBufs (V d (cV L) (jV L)) : sProp 𝕄)
      = iprop((∃ f, lstM.view.loc (V d (cV L) (jV L)) ↦{fullShare} f) ∗ bufSome d L Finset.univ
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    mem_ownRefs_of_owner (p := Proc.scVector (cV L) (jV L)) (b := (Proc.scVector (cV L) (jV L)).devRef cc0_scratch1) rfl⟩)]

/-- A tile's copy semaphores, as cells. -/
def copyCells : DmaSem sig ↪ GSem nD τ sig :=
  ⟨fun s => (V d (cV L) (jV L), .dma s), fun _ _ h => SemLoc.dma.inj (Prod.mk.inj h).2⟩

/-- A tile's own semaphores at zero: the nine of the copies, and others. -/
theorem ownSems0_tile :
    (ownSems0 (V d (cV L) (jV L)) : sProp 𝕄)
      = iprop((sem0 cc0_scratch2.sem (d := d) (L := L) ∗ sem0 cc0_scratch3.sem (d := d) (L := L) ∗ sem0 cc0_scratch4.sem (d := d) (L := L)
            ∗ sem0 cc0_scratch5.sem (d := d) (L := L) ∗ sem0 cc0_scratch6.sem (d := d) (L := L) ∗ sem0 cc0_scratch7.sem (d := d) (L := L)
            ∗ sem0 cc0_scratch8.sem (d := d) (L := L) ∗ sem0 cc0_scratch9.sem (d := d) (L := L) ∗ sem0 cc0_scoped0.sem (d := d) (L := L))
          ∗ bigSep (ownCells (V d (cV L) (jV L)) \ Finset.univ.map (copyCells d L)) fun g => semVal g 0) := by
  have hsub : Finset.univ.map (copyCells d L) ⊆ ownCells (V d (cV L) (jV L)) := fun g hg => by
    obtain ⟨s, -, rfl⟩ := Finset.mem_map.mp hg
    exact mem_ownCells.mpr ⟨rfl, (show ∀ s : DmaSem sig, (SemLoc.dma s : SemLoc sig).isScoped .scVector = true by decide) s⟩
  unfold SparseCore.Cfg.ownSems0
  refine (SparseCore.bigSep_sdiff_split' hsub).trans (congrArg (fun A => BI.sep A _) ?_)
  refine (SparseCore.bigSep_map (copyCells d L) Finset.univ _).trans ?_
  exact bigSep_univ_eq_bigSepL [cc0_scratch2.sem, cc0_scratch3.sem, cc0_scratch4.sem, cc0_scratch5.sem, cc0_scratch6.sem, cc0_scratch7.sem,
    cc0_scratch8.sem, cc0_scratch9.sem, cc0_scoped0.sem] (by decide) (by decide) _

end Tile

/-! ## The task, as the call asks for it -/

section Task

variable [FloatOps F] {m}

/-- A tile, from what its go signal hands it, runs its task to what it brings back. -/
theorem tile (hF : (K (F := F)).Facts) (hpre : PreOK m) (d : Dev nD) (L : grid0.Coords) (q : PosShare TreeShare)
    (O : CellTallies nD τ sig (HIx 1)) (W : Waits sig (HIx 1)) (hO : ∀ g, O g none = 0) :
    iprop(levAts (K (F := F)).L (K (F := F)).lev ∗ emp ∗ operands m d q (taskRows L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L idxM (Memref.isWhole_whole _) tabM (Memref.isWhole_whole _) outM (Memref.isWhole_whole _)
            lstM (Memref.isWhole_whole _) bufM (Memref.isWhole_whole _) cc0_scratch2 cc0_scratch3 cc0_scratch4 cc0_scratch5
            cc0_scratch6 cc0_scratch7 cc0_scratch8 cc0_scratch9 cc0_scoped0)
          fun _ => iprop(operands m d q (taskRows L) (Out m d) ∗ scopedBufs (V d (cV L) (jV L)) ∗ scopedSems0 (V d (cV L) (jV L))
            ∗ ∃ W', ⌜∀ p ∈ W', p ∈ W ∨ p.2 = none ∨ p.2 = some 0⌝ ∗ owes (V d (cV L) (jV L)) O W') := by
  rw [gather_body_eq_task, (K (F := F)).scopedBufs_V hF d (cV L) (jV L), SparseCore.Cfg.scopedSems0_V (Val := Elt F) d (cV L) (jV L),
    ownSems0_tile, ownBufs_tile]
  iintro ⟨#Hlv, -, ⟨Hi, Hx, Ho⟩, ⟨⟨%fl, Hl⟩, Hb, Hbufs⟩, ⟨⟨H2, H3, H4, H5, H6, H7, H8, H9, Hc⟩, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Hw := (wp_task hpre q (m (oLoc d)) fl (O := O) (W := W)) $$ [Hmw Hi Hx Ho Hl Hb H2 H3 H4 H5 H6 H7 H8 H9 Hc HO]
  · isplitl [Hmw]; · iexact Hmw
    isplitl [Hi]; · iexact Hi
    isplitl [Hx]; · iexact Hx
    isplitl [Ho]; · iexact Ho
    isplitl [Hl]; · iexact Hl
    isplitl [Hb]; · iexact Hb
    isplitr [HO]
    · isplitl [H2 H3 H4 H5]
      · isplitl [H2]; · iexact H2
        isplitl [H3]; · iexact H3
        isplitl [H4]; · iexact H4
        iexact H5
      isplitl [H6 H7 H8 H9]
      · isplitl [H6]; · iexact H6
        isplitl [H7]; · iexact H7
        isplitl [H8]; · iexact H8
        iexact H9
      iexact Hc
    unfold Owing
    iexists W
    isplitr
    swap; · iexact HO
    ipureintro
    exact fun p hp => .inl hp
  iapply (wp_wand _ _ _) $$ Hw
  iintro %_ ⟨Hops, ⟨Hl, Hb⟩, ⟨⟨H2, H3, H4, H5⟩, ⟨H6, H7, H8, H9⟩, Hc⟩, HO⟩
  isplitl [Hops]; · iexact Hops
  isplitl [Hl Hb Hbufs]
  · isplitl [Hl]; · iexact Hl
    isplitl [Hb]; · iexact Hb
    iexact Hbufs
  isplitl [H2 H3 H4 H5 H6 H7 H8 H9 Hc Hsems]
  · isplitr [Hsems]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hc
    iexact Hsems
  ihave HO' := (Entails.of_eq (show Owing d (cV L) (jV L) O W = iprop(∃ W', ⌜∀ p ∈ W', p ∈ W ∨ p.2 = none⌝ ∗ owes (V d (cV L) (jV L)) O W') from rfl)) $$ HO
  icases HO' with ⟨%W', %hW', HO⟩
  iexists W'
  isplitr
  · ipureintro; exact fun p hp => (hW' p hp).imp_right Or.inl
  iexact HO

/-- What a tile runs. -/
theorem defs_tile (c : Fin τ.nSC) (s : Fin τ.nSub) :
    defs₀ (F := F) (.scVector c s) 0 ()
      = SparseCore.onTile hcore0 hsub0 (fun c s => cc0__gather_body (coords c s) idxM (Memref.isWhole_whole _) tabM (Memref.isWhole_whole _) outM (Memref.isWhole_whole _)
            lstM (Memref.isWhole_whole _) bufM (Memref.isWhole_whole _) cc0_scratch2 cc0_scratch3 cc0_scratch4 cc0_scratch5
            cc0_scratch6 cc0_scratch7 cc0_scratch8 cc0_scratch9 cc0_scoped0) ⟨⟩ c s := rfl

set_option maxRecDepth 16384 in
/-- Every tile meets the call's demand. -/
theorem tile_meets (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact tile hF hpre d (coords ⟨_, hci.1⟩ ⟨_, hci.2⟩) (taskShare (Fin.cast nCore_zero c) (Fin.cast nSub_zero i)) O W hO

/-- A SparseCore's operands split into its tasks', and its results join from theirs. -/
theorem core_splits : (K (F := F)).VecSplit' (P m) 0 := by
  intro d c
  have e (f : S204800x128.Idx → Elt F .f32) :
      (bigSep Finset.univ fun i : Fin ((K (F := F)).nSub 0) => (taskOps m d (Fin.cast nCore_zero c) (Fin.cast nSub_zero i) f : sProp 𝕄))
        = coreOps m d (Fin.cast nCore_zero c) f := (tasks_split m d (Fin.cast nCore_zero c) f).symm
  show coreOps m d (Fin.cast nCore_zero c) (m (oLoc d)) ⊢ |={Set.univ}=> iprop(
      (bigSep Finset.univ fun i : Fin ((K (F := F)).nSub 0) => taskOps m d (Fin.cast nCore_zero c) (Fin.cast nSub_zero i) (m (oLoc d)))
      ∗ ((bigSep Finset.univ fun i : Fin ((K (F := F)).nSub 0) => taskOps m d (Fin.cast nCore_zero c) (Fin.cast nSub_zero i) (Out m d))
          -∗ coreOps m d (Fin.cast nCore_zero c) (Out m d)))
  rw [e, e]
  iintro H
  imodintro
  isplitl [H]; · iexact H
  iintro H
  iexact H

end Task

end Cert.Proof.OfKernelIdeal

end
-- ==== Proof.RunKernelIdeal.lean ====
/-
  The program's run: every execution ends, with the arguments as they were, the result at the rows of the table that the
  index array names, and every semaphore at zero.
-/
module

public import proofs.«01_k».proof.Proof.LaunchKernelIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The result -/

/-- Where the program's result lies. -/
abbrev rLoc (d : Dev nD) : Loc nD τ sig := (SparseCore.T d).loc main_v1

/-- The program's result: the flat output at the result's shape. -/
def Res (d : Dev nD) : Buf (Elt F) (rLoc d) := shapeCast S1024x200x128 (Out m d : S204800x128.Idx → Elt F .f32) shapeCasts_S204800x128_S1024x200x128

/-! ## The ghost state at the launch -/

abbrev EH : Emb UH (MT nD τ sig (HIx 1) (Elt F) ℕ UU ℕ) := embL

/-- The handshakes' cells and tokens, and no copy in flight. -/
def u₀ : UU := (initOf (K (F := F)).hsCells (K (F := F)).hsToks, 1)

/-- It gives the launch theorem the handshakes' own part; the tasks are dealt nothing. -/
theorem deal : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  rw [e, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main -/

/-- The TensorCore's arrays: the arguments, the flat output, the result. -/
theorem arrays (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The operation after the call, and the two arrays it touches. -/
abbrev flatToRes : HloOp τ sig (Elt F) := StableHlo.reshape main_v0 main_v1 (rfl : (.f32 : EltTy) = .f32) shapeCasts_S204800x128_S1024x200x128
abbrev flat' : DevRef τ sig := Proc.devRef .tc main_v0
abbrev res' : DevRef τ sig := Proc.devRef .tc main_v1
abbrev touched : Finset (DevRef τ sig) := {flat', res'}

/-- The arrays' contents after the call. -/
def after (d : Dev nD) : Valuation τ sig (Elt F) := Function.update (fun b => m (d, b)) flat' (Out m d)

theorem held_touched (d : Dev nD) (W : Valuation τ sig (Elt F)) :
    (held (T d) touched W : sProp 𝕄) = iprop((oLoc d ↦{fullShare} W flat') ∗ rLoc d ↦{fullShare} W res') := by
  unfold held touched
  rw [SparseCore.bigSep_insert' (by decide), bigSep_singleton]

/-- After the operation the result is `Res`. -/
theorem result_res (d : Dev nD) : (flatToRes (F := F)).result (after m d) res' = Res m d := by
  refine (StableHlo.reshape_result main_v0 main_v1 _ _ _ _ (after m d)).trans ?_
  rw [show after m d (Proc.devRef .tc main_v0) = Out m d from Function.update_self _ _ _]
  rfl

variable [FloatOps F]

/-- What @main leaves: the arguments as they were, the result at `Res`. -/
abbrev FIN (d : Dev nD) : sProp 𝕄 :=
  iprop((iLoc d ↦{fullShare} m (iLoc d)) ∗ (xLoc d ↦{fullShare} m (xLoc d)) ∗ rLoc d ↦{fullShare} Res m d)

/-- What the call takes of @main's arrays, and gives back. -/
theorem call_takes (d : Dev nD) :
    (bigSep Finset.univ fun c : Fin ((K (F := F)).nCore 0) => (P m).st 0 d c) = (operands m d fullShare Finset.univ (m (oLoc d)) : sProp 𝕄) :=
  (cores_split m d (m (oLoc d))).symm
theorem call_gives (d : Dev nD) :
    (bigSep Finset.univ fun c : Fin ((K (F := F)).nCore 0) => (P m).dn 0 d c) = (operands m d fullShare Finset.univ (Out m d) : sProp 𝕄) :=
  (cores_split m d (Out m d)).symm

/-- @main: the call, and the operation that gives the flat output the result's shape. -/
theorem main_runs (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays]
  simp only [main, wp_bind, wp_pure]
  iintro ⟨#Hctx, Hst, ⟨Hb, ⟨Hi, Hx, Ho, Hr⟩, Hts, -⟩, -⟩
  iapply ((K (F := F)).wp_run (D (F := F)) 𝒱 (EH := EH) (P := P m) κ d 0) $$ [Hst Hi Hx Ho Hr Hb Hts]
  isplitr; · iexact Hctx
  isplitl [Hst]; · iexact Hst
  isplitl [Hi Hx Ho]
  · rw [call_takes]
    isplitl [Hi]; · iexact Hi
    isplitl [Hx]; · iexact Hx
    iexact Ho
  iintro ⟨Hst, Hdn⟩
  ihave Hdn' := (Entails.of_eq (call_gives m d)) $$ Hdn
  icases Hdn' with ⟨Hi, Hx, Ho⟩
  iapply (wp_hlo_within 𝒱 (SparseCore.T d) none Set.univ (op := flatToRes) (S := touched) (Finset.Subset.refl _) (V := after m d)) $$ [Hb Ho Hr]
  · isplitl [Hb]; · iexact Hb
    rw [held_touched, show after m d flat' = Out m d from Function.update_self _ _ _,
      show after m d res' = m (rLoc d) from Function.update_of_ne (show res' ≠ flat' by decide) _ _]
    isplitl [Ho]; · iexact Ho
    iexact Hr
  iintro ⟨Hb, Hheld⟩
  ihave Hh := (Entails.of_eq ((held_touched d ((flatToRes (F := F)).result (after m d))).trans (by rw [result_res]))) $$ Hheld
  icases Hh with ⟨-, Hr⟩
  rw [wp_ret]; imodintro; imodintro
  isplitl [Hst]; · iexact Hst
  isplitr [Hb Hts]
  · isplitl [Hi]; · iexact Hi
    isplitl [Hx]; · iexact Hx
    iexact Hr
  isplitl [Hb] <;> iassumption

/-! ## The run -/

/-- What a final state says of device `d`. -/
def Final (d : Dev nD) (s : MemSt nD τ sig (Elt F)) : Prop :=
  s.mem (iLoc d) = m (iLoc d) ∧ s.mem (xLoc d) = m (xLoc d) ∧ s.mem (rLoc d) = Res m d

set_option maxRecDepth 16384 in
/-- What @main leaves is what the memory then holds. -/
theorem fin_final (d : Dev nD) (s : Phys nD τ sig (Elt F)) : iprop(FIN m d ∗ SI s) ⊢ (⌜Final m d s.mem⌝ : sProp 𝕄) := by
  iintro ⟨⟨Hi, Hx, Hr⟩, HSI⟩
  ihave H := (persistent_entails_right (SI_pointsTo_agree (st := s) (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s) (ℓ := xLoc d) (I := Finset.univ) (q := fullShare) (f := m (xLoc d)))) $$ [HSI Hx]
  · isplitl [HSI] <;> iassumption
  icases H with ⟨%h2, HSI, -⟩
  ihave H := (SI_pointsTo_agree (st := s) (ℓ := rLoc d) (I := Finset.univ) (q := fullShare) (f := Res m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- Every execution of the program ends as said, with every semaphore at zero. -/
theorem run [∀ e, Nonempty (Elt F e)] (hpre : PreOK m) :
    θ_run (Cert.KernelIdeal.defs (F := F)) (Cert.KernelIdeal.threads (F := F)) ⟨m, fun _ => 0, ρ⟩
      (fun r => (∀ d : Dev nD, Final m d r.2) ∧ r.2.sem = fun _ => 0) :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tile_meets launch_facts hpre)
    (fun q _ => match q with | 0 => SparseCore.Cfg.VecSplit.of_plain core_splits)
    m ρ main (fun _ => iprop(emp)) (FIN m) (u₀ (F := F)) (sep_elim_left.trans (deal m)) (main_runs m ρ) (fun d s => Final m d s.mem) (fin_final m)
    _ (fun _ h hz => ⟨h, hz⟩)

end Cert.Proof.OfKernelIdeal

end
-- ==== Proof.Vocab.lean ====
/-
  What the precondition says of the index array: read as a natural number, every one of its words names a row of the
  table.
-/
module

public import proofs.«01_k».proof.Defs
public import proofs.«01_k».proof.Proof.Gen.Pre_tokens_in_vocab
public import Idealize.ShloMosaic.Lib.ReduceAll

@[expose] public section

noncomputable section

namespace Cert.Proof.Vocab

open Idealize.ShloMosaic

/-- A signed word at least 0 and below 100000 is, read unsigned, below 100000. -/
theorem toNat_lt_of_bounds (v : BitVec 32)
    (h : IntOp.andi (IntOp.cmpi .sge v 0#32) (IntOp.cmpi .slt v 100000#32) = 1#1) : v.toNat < 100000 := by
  have hand : ∀ p q : Bool, BitVec.ofBool p &&& BitVec.ofBool q = 1#1 → p = true ∧ q = true := by decide
  have hb : (0#32).sle v = true ∧ v.slt 100000#32 = true := hand _ _ h
  obtain ⟨hlo, hhi⟩ := hb
  rw [BitVec.sle_eq_decide, decide_eq_true_iff] at hlo
  rw [BitVec.slt_eq_decide, decide_eq_true_iff] at hhi
  simp only [BitVec.toInt_eq_toNat_cond, BitVec.toNat_ofNat] at hlo hhi
  omega

/-- The precondition holds the words of the index array below 100000. -/
theorem words_lt {F : FTy → Type} [FloatOps F] (a : IVec Cert.Pre_tokens_in_vocab.S1024x200 32)
    (x : FVec F Cert.Pre_tokens_in_vocab.S100000x128 .f32)
    (h : Cert.Pre_tokens_in_vocab.fn (F := F) a x = fun _ => 1#1) (j : Cert.Pre_tokens_in_vocab.S1024x200.Idx) :
    (a j).toNat < 100000 := by
  haveI : Subsingleton Cert.Pre_tokens_in_vocab.S_.Idx := ⟨fun p q => funext fun b => b.elim0⟩
  exact toNat_lt_of_bounds (a j) (Host.reduce_andi_all _ _ _ _ (fun b => b.elim0) (congrFun h _) j)

end Cert.Proof.Vocab

end
-- ==== Proof.ReferenceValue.lean ====
/-
  The reference's result, read at an index: where every word of the index array names a row of the table, entry
  (a, b, c) is entry c of the row that word (a, b) names. The wrap-around of negative words does nothing there, no entry
  is masked out, and the gather's clamp keeps every row as it is.
-/
module

public import proofs.«01_k».proof.Proof.Vocab
public import proofs.«01_k».proof.Proof.Gen.ReferenceIdeal.Run
public import Idealize.ShloMosaic.Lib.Pointwise.Index

@[expose] public section

noncomputable section

namespace Cert.Proof.OfReference

open Cert.ReferenceIdeal Cert.ReferenceIdeal.Gen
open Idealize.ShloMosaic

/-! ## One word -/

/-- A word below 100000 has that value as a signed integer too. -/
theorem toInt_of_lt (v : BitVec 32) (h : v.toNat < 100000) : v.toInt = v.toNat := by
  rw [BitVec.toInt_eq_toNat_cond]; omega

/-- A word below 100000 is not negative. -/
theorem not_neg (v : BitVec 32) (h : v.toNat < 100000) : IntOp.cmpi .slt v 0#32 = 0#1 := by
  show BitVec.ofBool (v.slt 0#32) = 0#1
  rw [BitVec.slt_eq_decide, toInt_of_lt v h, decide_eq_false (by simp)]
  rfl

/-- A word below 100000 lies between 0 and 99999. -/
theorem in_bounds (v : BitVec 32) (h : v.toNat < 100000) :
    IntOp.andi (IntOp.cmpi .sge v 0#32) (IntOp.cmpi .sle v 99999#32) = 1#1 := by
  have h0 : (0#32).sle v = true := by
    rw [BitVec.sle_eq_decide, toInt_of_lt v h, decide_eq_true_iff]; simp
  have h1 : v.sle 99999#32 = true := by
    rw [BitVec.sle_eq_decide, toInt_of_lt v h, decide_eq_true_iff]
    have : (99999#32).toInt = 99999 := by decide
    omega
  show BitVec.ofBool ((0#32).sle v) &&& BitVec.ofBool (v.sle 99999#32) = 1#1
  rw [h0, h1]; rfl

/-! ## The gather -/

/-- The place of the start index for row (a, b). -/
abbrev startIx (y : S1024x200x128.Idx) : S1024x200x1.Idx := ix3 (y 0) (y 1) 0

/-- The gather's dimension numbers. -/
abbrev rowDims : GatherDims S100000x128 S1024x200x1 S1024x200x128 :=
  gather_S100000x128_S1024x200x1_S1024x200x128_2_0_n_n_0_2_1128

/-- Down the rows, a slice starts at the word for (a, b), clamped into the table. -/
theorem start_row (w : IVec S1024x200x1 32) (y : S1024x200x128.Idx) :
    GatherDims.start rowDims y w (0 : Fin 2) = min (w (startIx y)).toInt.toNat 99999 := by
  have h0 : (0 : Fin 2) ∈ GatherDims.startIndexMap rowDims := List.mem_singleton.mpr rfl
  refine (dif_pos h0).trans (congrArg (fun i => min (w i).toInt.toNat 99999) (funext fun b => Fin.ext ?_))
  match b with
  | ⟨0, _⟩ => rfl
  | ⟨1, _⟩ => rfl
  | ⟨2, _⟩ => rfl

/-- Along a row, every slice starts at 0. -/
theorem start_col (w : IVec S1024x200x1 32) (y : S1024x200x128.Idx) : GatherDims.start rowDims y w (1 : Fin 2) = 0 :=
  dif_neg fun h : (1 : Fin 2) ∈ GatherDims.startIndexMap rowDims =>
    absurd (List.mem_singleton.mp h : (1 : Fin 2) = 0) (by decide)

/-- The gather's entry (a, b, c): entry c of the row whose number is word (a, b, 0), clamped into the table. -/
theorem gather_row {α : Type} (x : S100000x128.Idx → α) (w : IVec S1024x200x1 32) (y : S1024x200x128.Idx) :
    Host.gather rowDims x w y = x (ix2 ⟨min (w (startIx y)).toInt.toNat 99999, by omega⟩ (y 2)) := by
  refine congrArg x (funext fun a => Fin.ext ?_)
  have hb : GatherDims.batchCoord rowDims y a = 0 := GatherDims.batchCoord_eq_zero _ _ _ List.not_mem_nil
  show GatherDims.start rowDims y w a + GatherDims.batchCoord rowDims y a + GatherDims.offCoord rowDims y a = _
  rw [hb, Nat.add_zero]
  match a with
  | ⟨0, _⟩ =>
    have ho : GatherDims.offCoord rowDims y (0 : Fin 2) = 0 :=
      GatherDims.offCoord_eq_zero _ _ _ fun h => ((GatherDims.mem_sKept _ _).mp h).1 (List.mem_singleton.mpr rfl)
    exact (congrArg₂ (· + ·) (start_row w y) ho).trans (Nat.add_zero _)
  | ⟨1, _⟩ => exact (congrArg (· + (y 2).val) (start_col w y)).trans (Nat.zero_add _)

/-! ## The result -/

/-- The words that the reference looks up: a negative word counts from the table's end. -/
abbrev wrapped (a : IVec S1024x200 32) : IVec S1024x200x1 32 :=
  broadcastInDim S1024x200x1 ![0, 1] bcast_S1024x200_S1024x200x1_0_1
    (select (cmpi .slt a (broadcastInDim S1024x200 ![] bcast_S_S1024x200 (constantI S_ 32 0#32)))
      (addi a (broadcastInDim S1024x200 ![] bcast_S_S1024x200 (constantI S_ 32 100000#32))) a)

/-- The reference's result as a function of its two arguments. -/
abbrev result {F : FTy → Type} [FloatOps F] (a : IVec S1024x200 32) (x : S100000x128.Idx → F .f32) :
    S1024x200x128.Idx → F .f32 :=
  select (broadcastInDim S1024x200x128 ![0, 1] bcast_S1024x200_S1024x200x128_0_1
      (Host.reduce IntOp.andi
        (andi (cmpi .sge (wrapped a) (broadcastInDim S1024x200x1 ![] bcast_S_S1024x200x1 (constantI S_ 32 0#32)))
          (cmpi .sle (wrapped a) (broadcastInDim S1024x200x1 ![0, 1, 2] bcast_S1x1x1_S1024x200x1_0_1_2
            (broadcastInDim S1x1x1 ![2] bcast_S1_S1x1x1_2 (constantI S1 32 99999#32)))))
        (constantI S_ 1 1#1) reducesTo_S1024x200x1_S1024x200_d2 h_S_))
    (Host.gather gather_S100000x128_S1024x200x1_S1024x200x128_2_0_n_n_0_2_1128 x (wrapped a))
    (broadcastInDim S1024x200x128 ![] bcast_S_S1024x200x128 (constant S_ .f32 0x7FC00000#32))

variable (a : IVec S1024x200 32) (ha : ∀ j, (a j).toNat < 100000)

include ha in
/-- In range, a looked-up word is the index array's own. -/
theorem wrapped_apply (i : S1024x200x1.Idx) : wrapped a i = a (ix2 (i 0) (i 1)) := by
  have hb : ∀ u : IVec S1024x200 32, broadcastInDim S1024x200x1 ![0, 1] bcast_S1024x200_S1024x200x1_0_1 u i
      = u (ix2 (i 0) (i 1)) := fun u => congrArg u (funext fun b => Fin.ext (by
    match b with
    | ⟨0, _⟩ => rfl
    | ⟨1, _⟩ => rfl))
  refine (hb _).trans ?_
  show Scalar.select (IntOp.cmpi .slt (a (ix2 (i 0) (i 1))) 0#32) _ _ = _
  rw [not_neg _ (ha _)]
  rfl

include ha in
/-- In range, no entry of the result is masked out. -/
theorem mask_one (j : S1024x200.Idx) :
    Host.reduce IntOp.andi
        (andi (cmpi .sge (wrapped a) (broadcastInDim S1024x200x1 ![] bcast_S_S1024x200x1 (constantI S_ 32 0#32)))
          (cmpi .sle (wrapped a) (broadcastInDim S1024x200x1 ![0, 1, 2] bcast_S1x1x1_S1024x200x1_0_1_2
            (broadcastInDim S1x1x1 ![2] bcast_S1_S1x1x1_2 (constantI S1 32 99999#32)))))
        (constantI S_ 1 1#1) reducesTo_S1024x200x1_S1024x200_d2 h_S_ j = 1#1 := by
  refine Host.reduce_andi_one _ _ _ _ j rfl fun i => ?_
  show IntOp.andi (IntOp.cmpi .sge (wrapped a i) 0#32) (IntOp.cmpi .sle (wrapped a i) 99999#32) = 1#1
  rw [wrapped_apply a ha i]
  exact in_bounds _ (ha _)

/-- In range, the result's entry (a, b, c) is entry c of the row that word (a, b) names. -/
theorem result_apply {F : FTy → Type} [FloatOps F] (x : S100000x128.Idx → F .f32) (y : S1024x200x128.Idx) :
    result a x y = x (ix2 ⟨(a (ix2 (y 0) (y 1))).toNat, ha _⟩ (y 2)) := by
  show Scalar.select (Host.reduce IntOp.andi _ _ _ _ _) (Host.gather _ x (wrapped a) y) _ = _
  rw [mask_one a ha, gather_row]
  show x _ = x _
  refine congrArg (fun r => x (ix2 r (y 2))) (Fin.ext ?_)
  show min (wrapped a (startIx y)).toInt.toNat 99999 = (a (ix2 (y 0) (y 1))).toNat
  have h : (a (ix2 (y 0) (y 1))).toNat < 100000 := ha _
  have hw : wrapped a (startIx y) = a (ix2 (y 0) (y 1)) := wrapped_apply a ha _
  rw [hw, toInt_of_lt _ h]
  omega

end Cert.Proof.OfReference

end
-- ==== Proof.Agree.lean ====
/-
  The two results are one: where every word of the index array names a row of the table, the program's result and the
  reference's agree at every entry.
-/
module

public import proofs.«01_k».proof.Proof.RunKernelIdeal
public import proofs.«01_k».proof.Proof.ReferenceValue
public import Idealize.ShloMosaic.Lib.Pipeline.Value

@[expose] public section

noncomputable section

namespace Cert.Proof.Agree

open Cert.KernelIdeal Cert.KernelIdeal.Gen
open Idealize.ShloMosaic
open Cert.Proof.OfKernelIdeal

variable {F : FTy → Type} (m : (ℓ : Loc nD τ sig) → Buf (Elt F) ℓ)

/-- Word 200 a + b of the index array, counted row by row, is its word (a, b). -/
theorem word_flat (d : Dev nD) (a : Fin 1024) (b : Fin 200) (h : a.val * 200 + b.val < 204800) :
    word m d ⟨a.val * 200 + b.val, h⟩ = m (iLoc d) (ix2 a b) := by
  unfold word
  refine congrArg (m (iLoc d)) ?_
  refine (ix2_inj (n0 := 1024) (n1 := 200) _ _ _ _).mpr ⟨Fin.ext ?_, Fin.ext ?_⟩
  · show (a.val * 200 + b.val) / 200 = a.val
    omega
  · show (a.val * 200 + b.val) % 200 = b.val
    omega

/-- The program's result at (a, b, c): entry c of the row of the table that word (a, b) names. -/
theorem res_apply (hpre : PreOK m) (d : Dev nD) (y : S1024x200x128.Idx) :
    (Res m d : S1024x200x128.Idx → Elt F .f32) y
      = m (xLoc d) (ix2 (⟨(m (iLoc d) (ix2 (y 0) (y 1))).toNat, hpre d _⟩ : Fin 100000) (y 2)) := by
  have h0 : (y 0).val < 1024 := (y 0).isLt
  have h1 : (y 1).val < 200 := (y 1).isLt
  have hr : (y 0).val * 200 + (y 1).val < 204800 := by omega
  refine (shapeCast_apply _ _ y (ix2 (⟨(y 0).val * 200 + (y 1).val, hr⟩ : Fin 204800) (y 2)) ?_).trans ?_
  · rw [Shape.rowMajor_val_two, Shape.rowMajor_val_three]
    rfl
  · unfold Out
    refine congrArg (m (xLoc d)) ?_
    refine (ix2_inj (n0 := 100000) (n1 := 128) _ _ _ _).mpr ⟨Fin.ext ?_, rfl⟩
    show (word m d ⟨(y 0).val * 200 + (y 1).val, hr⟩).toNat % 100000 = (m (iLoc d) (ix2 (y 0) (y 1))).toNat
    rw [word_flat m d (y 0) (y 1) hr]
    exact Nat.mod_eq_of_lt (hpre d _)

/-- The reference's result of the program's two arguments is the program's result. -/
theorem result_eq [FloatOps F] (hpre : PreOK m) (d : Dev nD) :
    Cert.Proof.OfReference.result (F := F) (m (iLoc d)) (m (xLoc d)) = Res m d :=
  funext fun y => (Cert.Proof.OfReference.result_apply (m (iLoc d)) (hpre d) (m (xLoc d)) y).trans (res_apply m hpre d y).symm

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_tokens_in_vocab
public import proofs.«01_k».proof.Proof.RunKernel
public import proofs.«01_k».proof.Proof.RunKernelIdeal
public import proofs.«01_k».proof.Proof.Vocab
public import proofs.«01_k».proof.Proof.ReferenceValue
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The precondition, of the program at its own floats. -/
theorem ok_kernel (m : (ℓ : Loc Cert.Kernel.nD Cert.Kernel.τ Cert.Kernel.sig) → Buf (Elt Bits) ℓ) (h : Pre_Kernel m) :
    OfKernel.PreOK m := fun d j => Vocab.words_lt _ _ (h d) j

/-- The precondition, of the program over extended reals. -/
theorem ok_kernelIdeal (m : (ℓ : Loc Cert.KernelIdeal.nD Cert.KernelIdeal.τ Cert.KernelIdeal.sig) → Buf (Elt Ideal) ℓ)
    (h : Pre_KernelIdeal m) : OfKernelIdeal.PreOK m := fun d j => Vocab.words_lt _ _ (h d) j

/-- The program at its own floats ends, its arguments unchanged, every semaphore at zero. -/
theorem frame_kernel : quiescent_Kernel := fun m g h => by
  exact (θ_run _ _ _).mono (fun _ hr => ⟨fun c => ⟨(hr.1 c).1, (hr.1 c).2.1⟩, hr.2⟩) (OfKernel.run m g (ok_kernel m h))

/-- The program over extended reals ends, its arguments unchanged, every semaphore at zero. -/
theorem frame_kernelIdeal : quiescent_KernelIdeal := fun m g h => by
  exact (θ_run _ _ _).mono (fun _ hr => ⟨fun c => ⟨(hr.1 c).1, (hr.1 c).2.1⟩, hr.2⟩) (OfKernelIdeal.run m g (ok_kernelIdeal m h))

/-- The reference ends, its arguments unchanged; it has no semaphore. -/
theorem frame_referenceIdeal : quiescent_ReferenceIdeal := fun m g _ =>
  (θ_run _ _ _).mono (fun r hr => ⟨fun c => (hr c).2, sem_eq_zero_of_no_sems rfl r.2⟩) (Cert.ReferenceIdeal.Value.run m g)

/-- The same where every word of the index array names a row of the table. -/
theorem frame_referenceIdeal_in_vocab : quiescent_ReferenceIdeal_pre_tokens_in_vocab := fun m g _ =>
  frame_referenceIdeal m g True.intro

/-- From equal arguments, the program's result is the reference's. -/
theorem values_agree : algebraic_KernelIdeal_ReferenceIdeal := fun m g m' g' h hm => by
  have hpre := ok_kernelIdeal m h
  refine ⟨fun c => OfKernelIdeal.Res m c, ?_, ?_⟩
  · exact (θ_run _ _ _).mono (fun _ hr c => ⟨(hr.1 c).2.2, (hr.1 c).1, (hr.1 c).2.1⟩) (OfKernelIdeal.run m g hpre)
  · refine (θ_run _ _ _).mono (fun _ hr c => ⟨(hr c).1.trans ?_, (hr c).2⟩) (Cert.ReferenceIdeal.Value.run m' g')
    rw [(hm c).1, (hm c).2]
    exact Agree.result_eq m hpre c

/-- All that is claimed. -/
theorem claim : Cert.Claim := ⟨Cert.Kernel.Gen.facts, Cert.KernelIdeal.Gen.facts, Cert.ReferenceIdeal.Gen.facts, Cert.Pre_tokens_in_vocab.Gen.facts,
  frame_kernel, frame_kernelIdeal, frame_referenceIdeal, frame_referenceIdeal_in_vocab, trivial, values_agree⟩

end Cert.Proof

end
